-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "third" .f32 0x3EAAAAAB#32 ((3⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v290) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x256 : Shape := ⟨2, ![64, 256]⟩
abbrev S256x256 : Shape := ⟨2, ![256, 256]⟩
abbrev S256 : Shape := ⟨1, ![256]⟩
abbrev S512x256 : Shape := ⟨2, ![512, 256]⟩
abbrev S256x2 : Shape := ⟨2, ![256, 2]⟩
abbrev S2 : Shape := ⟨1, ![2]⟩
abbrev S1x256 : Shape := ⟨2, ![1, 256]⟩
abbrev S1x2 : Shape := ⟨2, ![1, 2]⟩
abbrev S64x2 : Shape := ⟨2, ![64, 2]⟩
abbrev S63x256 : Shape := ⟨2, ![63, 256]⟩
abbrev S62x256 : Shape := ⟨2, ![62, 256]⟩
abbrev S2x256 : Shape := ⟨2, ![2, 256]⟩
abbrev S61x256 : Shape := ⟨2, ![61, 256]⟩
abbrev S3x256 : Shape := ⟨2, ![3, 256]⟩
abbrev S128x256 : Shape := ⟨2, ![128, 256]⟩

abbrev nBuf : Space → Nat
  | .hbm => 11
  | .vmem => 8
  | .smem => 0
  | _ => 0

abbrev bufTy : (tb : Table) → Fin (tcTables nBuf tb) → BufTy
  | .hbm, ⟨0, _⟩ => ⟨S64x256, .f32⟩
  | .hbm, ⟨1, _⟩ => ⟨S256x256, .f32⟩
  | .hbm, ⟨2, _⟩ => ⟨S256, .f32⟩
  | .hbm, ⟨3, _⟩ => ⟨S512x256, .f32⟩
  | .hbm, ⟨4, _⟩ => ⟨S256, .f32⟩
  | .hbm, ⟨5, _⟩ => ⟨S256x2, .f32⟩
  | .hbm, ⟨6, _⟩ => ⟨S2, .f32⟩
  | .hbm, ⟨7, _⟩ => ⟨S1x256, .f32⟩
  | .hbm, ⟨8, _⟩ => ⟨S1x256, .f32⟩
  | .hbm, ⟨9, _⟩ => ⟨S1x2, .f32⟩
  | .hbm, ⟨10, _⟩ => ⟨S64x2, .f32⟩
  | .local _ .vmem, ⟨0, _⟩ => ⟨S64x256, .f32⟩
  | .local _ .vmem, ⟨1, _⟩ => ⟨S256x256, .f32⟩
  | .local _ .vmem, ⟨2, _⟩ => ⟨S1x256, .f32⟩
  | .local _ .vmem, ⟨3, _⟩ => ⟨S512x256, .f32⟩
  | .local _ .vmem, ⟨4, _⟩ => ⟨S1x256, .f32⟩
  | .local _ .vmem, ⟨5, _⟩ => ⟨S256x2, .f32⟩
  | .local _ .vmem, ⟨6, _⟩ => ⟨S1x2, .f32⟩
  | .local _ .vmem, ⟨7, _⟩ => ⟨S64x2, .f32⟩
  | _, _ => ⟨S64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S64x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== KernelIdeal.lean ====
variable {F : FTy → Type} [FloatOps F] [Named F]
def κ : String → Option EReal := fun
  | "third" => some ((3⁻¹ : ℝ) : EReal)
  | _ => none
-- ==== ReferenceIdeal.lean ====
abbrev S64x256 : Shape := ⟨2, ![64, 256]⟩
abbrev S256x256 : Shape := ⟨2, ![256, 256]⟩
abbrev S256 : Shape := ⟨1, ![256]⟩
abbrev S512x256 : Shape := ⟨2, ![512, 256]⟩
abbrev S256x2 : Shape := ⟨2, ![256, 2]⟩
abbrev S2 : Shape := ⟨1, ![2]⟩
abbrev S64 : Shape := ⟨1, ![64]⟩
abbrev S_ : Shape := ⟨0, ![]⟩
abbrev S64x1 : Shape := ⟨2, ![64, 1]⟩
abbrev S1x256 : Shape := ⟨2, ![1, 256]⟩
abbrev S64x512 : Shape := ⟨2, ![64, 512]⟩
abbrev S64x2 : Shape := ⟨2, ![64, 2]⟩
abbrev S1x2 : Shape := ⟨2, ![1, 2]⟩

abbrev nBuf : Space → Nat
  | .hbm => 461
  | .vmem => 0
  | .smem => 0
  | _ => 0

abbrev hbmTy0_0 (i : Nat) : BufTy := match i % 128 with
  | 0 => ⟨S64x256, .f32⟩
  | 1 => ⟨S256x256, .f32⟩
  | 2 => ⟨S256, .f32⟩
  | 3 => ⟨S512x256, .f32⟩
  | 4 => ⟨S256, .f32⟩
  | 5 => ⟨S256x2, .f32⟩
  | 6 => ⟨S2, .f32⟩
  | 7 => ⟨S64, .i32⟩
  | 8 => ⟨S_, .i32⟩
  | 9 => ⟨S64, .i32⟩
  | 10 => ⟨S64, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S64, .i32⟩
  | 18 => ⟨S64, .i32⟩
  | 19 => ⟨S_, .i32⟩
  | 20 => ⟨S64, .i32⟩
  | 21 => ⟨S64, .i1⟩
  | 22 => ⟨S_, .i32⟩
  | 23 => ⟨S64, .i32⟩
  | 24 => ⟨S64, .i1⟩
  | 25 => ⟨S_, .i32⟩
  | 26 => ⟨S_, .i1⟩
  | 27 => ⟨S64, .i1⟩
  | 28 => ⟨S64, .i1⟩
  | 29 => ⟨S64, .i1⟩
  | 30 => ⟨S64, .i32⟩
  | 31 => ⟨S64, .i32⟩
  | 32 => ⟨S64, .i32⟩
  | 33 => ⟨S_, .i32⟩
  | 34 => ⟨S64, .i32⟩
  | 35 => ⟨S64, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S64, .i32⟩
  | 43 => ⟨S64, .i32⟩
  | 44 => ⟨S_, .i32⟩
  | 45 => ⟨S64, .i32⟩
  | 46 => ⟨S64, .i1⟩
  | 47 => ⟨S_, .i32⟩
  | 48 => ⟨S64, .i32⟩
  | 49 => ⟨S64, .i1⟩
  | 50 => ⟨S_, .i32⟩
  | 51 => ⟨S_, .i1⟩
  | 52 => ⟨S64, .i1⟩
  | 53 => ⟨S64, .i1⟩
  | 54 => ⟨S64, .i1⟩
  | 55 => ⟨S64, .i32⟩
  | 56 => ⟨S64, .i32⟩
  | 57 => ⟨S64, .i32⟩
  | 58 => ⟨S_, .i32⟩
  | 59 => ⟨S64, .i32⟩
  | 60 => ⟨S64, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S64, .i32⟩
  | 68 => ⟨S64, .i32⟩
  | 69 => ⟨S_, .i32⟩
  | 70 => ⟨S64, .i32⟩
  | 71 => ⟨S64, .i1⟩
  | 72 => ⟨S_, .i32⟩
  | 73 => ⟨S64, .i32⟩
  | 74 => ⟨S64, .i1⟩
  | 75 => ⟨S_, .i32⟩
  | 76 => ⟨S_, .i1⟩
  | 77 => ⟨S64, .i1⟩
  | 78 => ⟨S64, .i1⟩
  | 79 => ⟨S64, .i1⟩
  | 80 => ⟨S64, .i32⟩
  | 81 => ⟨S64, .i32⟩
  | 82 => ⟨S64, .i32⟩
  | 83 => ⟨S_, .f32⟩
  | 84 => ⟨S64x256, .f32⟩
  | 85 => ⟨S_, .i32⟩
  | 86 => ⟨S64, .i32⟩
  | 87 => ⟨S64, .i1⟩
  | 88 => ⟨S_, .i32⟩
  | 89 => ⟨S64, .i32⟩
  | 90 => ⟨S64, .i32⟩
  | 91 => ⟨S64, .i32⟩
  | 92 => ⟨S64x1, .i32⟩
  | 93 => ⟨S64x256, .f32⟩
  | 94 => ⟨S_, .f32⟩
  | 95 => ⟨S64x256, .f32⟩
  | 96 => ⟨S_, .i32⟩
  | 97 => ⟨S64, .i32⟩
  | 98 => ⟨S64, .i1⟩
  | 99 => ⟨S_, .i32⟩
  | 100 => ⟨S64, .i32⟩
  | 101 => ⟨S64, .i32⟩
  | 102 => ⟨S64, .i32⟩
  | 103 => ⟨S64x1, .i32⟩
  | 104 => ⟨S64x256, .f32⟩
  | 105 => ⟨S_, .i32⟩
  | 106 => ⟨S64, .i32⟩
  | 107 => ⟨S64, .i1⟩
  | 108 => ⟨S_, .i32⟩
  | 109 => ⟨S64, .i32⟩
  | 110 => ⟨S64, .i32⟩
  | 111 => ⟨S64, .i32⟩
  | 112 => ⟨S64x1, .i32⟩
  | 113 => ⟨S64x256, .f32⟩
  | 114 => ⟨S64x256, .f32⟩
  | 115 => ⟨S1x256, .f32⟩
  | 116 => ⟨S64x256, .f32⟩
  | 117 => ⟨S64x256, .f32⟩
  | 118 => ⟨S_, .f32⟩
  | 119 => ⟨S64x256, .f32⟩
  | 120 => ⟨S64x256, .f32⟩
  | 121 => ⟨S64x256, .f32⟩
  | 122 => ⟨S1x256, .f32⟩
  | 123 => ⟨S64x256, .f32⟩
  | 124 => ⟨S64x256, .f32⟩
  | 125 => ⟨S_, .f32⟩
  | 126 => ⟨S64x256, .f32⟩
  | 127 => ⟨S64x256, .f32⟩
  | _ => ⟨S64x256, .f32⟩

abbrev hbmTy0_1 (i : Nat) : BufTy := match i % 128 with
  | 0 => ⟨S64x512, .f32⟩
  | 1 => ⟨S64x256, .f32⟩
  | 2 => ⟨S1x256, .f32⟩
  | 3 => ⟨S64x256, .f32⟩
  | 4 => ⟨S64x256, .f32⟩
  | 5 => ⟨S_, .f32⟩
  | 6 => ⟨S64x256, .f32⟩
  | 7 => ⟨S64x256, .f32⟩
  | 8 => ⟨S_, .f32⟩
  | 9 => ⟨S64x256, .f32⟩
  | 10 => ⟨S64x256, .f32⟩
  | 11 => ⟨S64x256, .f32⟩
  | 12 => ⟨S_, .i32⟩
  | 13 => ⟨S64, .i32⟩
  | 14 => ⟨S64, .i1⟩
  | 15 => ⟨S_, .i32⟩
  | 16 => ⟨S64, .i32⟩
  | 17 => ⟨S64, .i32⟩
  | 18 => ⟨S64, .i32⟩
  | 19 => ⟨S64x1, .i32⟩
  | 20 => ⟨S64x256, .f32⟩
  | 21 => ⟨S_, .i32⟩
  | 22 => ⟨S64, .i32⟩
  | 23 => ⟨S64, .i1⟩
  | 24 => ⟨S_, .i32⟩
  | 25 => ⟨S64, .i32⟩
  | 26 => ⟨S64, .i32⟩
  | 27 => ⟨S64, .i32⟩
  | 28 => ⟨S64x1, .i32⟩
  | 29 => ⟨S64x256, .f32⟩
  | 30 => ⟨S64x256, .f32⟩
  | 31 => ⟨S1x256, .f32⟩
  | 32 => ⟨S64x256, .f32⟩
  | 33 => ⟨S64x256, .f32⟩
  | 34 => ⟨S_, .f32⟩
  | 35 => ⟨S64x256, .f32⟩
  | 36 => ⟨S64x256, .f32⟩
  | 37 => ⟨S64x256, .f32⟩
  | 38 => ⟨S1x256, .f32⟩
  | 39 => ⟨S64x256, .f32⟩
  | 40 => ⟨S64x256, .f32⟩
  | 41 => ⟨S_, .f32⟩
  | 42 => ⟨S64x256, .f32⟩
  | 43 => ⟨S64x256, .f32⟩
  | 44 => ⟨S64x512, .f32⟩
  | 45 => ⟨S64x256, .f32⟩
  | 46 => ⟨S1x256, .f32⟩
  | 47 => ⟨S64x256, .f32⟩
  | 48 => ⟨S64x256, .f32⟩
  | 49 => ⟨S_, .f32⟩
  | 50 => ⟨S64x256, .f32⟩
  | 51 => ⟨S64x256, .f32⟩
  | 52 => ⟨S_, .f32⟩
  | 53 => ⟨S64x256, .f32⟩
  | 54 => ⟨S64x256, .f32⟩
  | 55 => ⟨S64x256, .f32⟩
  | 56 => ⟨S64x256, .f32⟩
  | 57 => ⟨S1x256, .f32⟩
  | 58 => ⟨S64x256, .f32⟩
  | 59 => ⟨S64x256, .f32⟩
  | 60 => ⟨S_, .f32⟩
  | 61 => ⟨S64x256, .f32⟩
  | 62 => ⟨S64x256, .f32⟩
  | 63 => ⟨S64x512, .f32⟩
  | 64 => ⟨S64x256, .f32⟩
  | 65 => ⟨S1x256, .f32⟩
  | 66 => ⟨S64x256, .f32⟩
  | 67 => ⟨S64x256, .f32⟩
  | 68 => ⟨S_, .f32⟩
  | 69 => ⟨S64x256, .f32⟩
  | 70 => ⟨S64x256, .f32⟩
  | 71 => ⟨S_, .f32⟩
  | 72 => ⟨S64x256, .f32⟩
  | 73 => ⟨S64x256, .f32⟩
  | 74 => ⟨S64x256, .f32⟩
  | 75 => ⟨S_, .i32⟩
  | 76 => ⟨S64, .i32⟩
  | 77 => ⟨S64, .i1⟩
  | 78 => ⟨S_, .i32⟩
  | 79 => ⟨S64, .i32⟩
  | 80 => ⟨S64, .i32⟩
  | 81 => ⟨S64, .i32⟩
  | 82 => ⟨S64x1, .i32⟩
  | 83 => ⟨S64x256, .f32⟩
  | 84 => ⟨S_, .f32⟩
  | 85 => ⟨S64x256, .f32⟩
  | 86 => ⟨S_, .i32⟩
  | 87 => ⟨S64, .i32⟩
  | 88 => ⟨S64, .i1⟩
  | 89 => ⟨S_, .i32⟩
  | 90 => ⟨S64, .i32⟩
  | 91 => ⟨S64, .i32⟩
  | 92 => ⟨S64, .i32⟩
  | 93 => ⟨S64x1, .i32⟩
  | 94 => ⟨S64x256, .f32⟩
  | 95 => ⟨S_, .i32⟩
  | 96 => ⟨S64, .i32⟩
  | 97 => ⟨S64, .i1⟩
  | 98 => ⟨S_, .i32⟩
  | 99 => ⟨S64, .i32⟩
  | 100 => ⟨S64, .i32⟩
  | 101 => ⟨S64, .i32⟩
  | 102 => ⟨S64x1, .i32⟩
  | 103 => ⟨S64x256, .f32⟩
  | 104 => ⟨S64x256, .f32⟩
  | 105 => ⟨S1x256, .f32⟩
  | 106 => ⟨S64x256, .f32⟩
  | 107 => ⟨S64x256, .f32⟩
  | 108 => ⟨S_, .f32⟩
  | 109 => ⟨S64x256, .f32⟩
  | 110 => ⟨S64x256, .f32⟩
  | 111 => ⟨S64x256, .f32⟩
  | 112 => ⟨S1x256, .f32⟩
  | 113 => ⟨S64x256, .f32⟩
  | 114 => ⟨S64x256, .f32⟩
  | 115 => ⟨S_, .f32⟩
  | 116 => ⟨S64x256, .f32⟩
  | 117 => ⟨S64x256, .f32⟩
  | 118 => ⟨S64x512, .f32⟩
  | 119 => ⟨S64x256, .f32⟩
  | 120 => ⟨S1x256, .f32⟩
  | 121 => ⟨S64x256, .f32⟩
  | 122 => ⟨S64x256, .f32⟩
  | 123 => ⟨S_, .f32⟩
  | 124 => ⟨S64x256, .f32⟩
  | 125 => ⟨S64x256, .f32⟩
  | 126 => ⟨S_, .f32⟩
  | 127 => ⟨S64x256, .f32⟩
  | _ => ⟨S64x256, .f32⟩

abbrev hbmTy0_2 (i : Nat) : BufTy := match i % 128 with
  | 0 => ⟨S64x256, .f32⟩
  | 1 => ⟨S64x256, .f32⟩
  | 2 => ⟨S_, .i32⟩
  | 3 => ⟨S64, .i32⟩
  | 4 => ⟨S64, .i1⟩
  | 5 => ⟨S_, .i32⟩
  | 6 => ⟨S64, .i32⟩
  | 7 => ⟨S64, .i32⟩
  | 8 => ⟨S64, .i32⟩
  | 9 => ⟨S64x1, .i32⟩
  | 10 => ⟨S64x256, .f32⟩
  | 11 => ⟨S_, .i32⟩
  | 12 => ⟨S64, .i32⟩
  | 13 => ⟨S64, .i1⟩
  | 14 => ⟨S_, .i32⟩
  | 15 => ⟨S64, .i32⟩
  | 16 => ⟨S64, .i32⟩
  | 17 => ⟨S64, .i32⟩
  | 18 => ⟨S64x1, .i32⟩
  | 19 => ⟨S64x256, .f32⟩
  | 20 => ⟨S64x256, .f32⟩
  | 21 => ⟨S1x256, .f32⟩
  | 22 => ⟨S64x256, .f32⟩
  | 23 => ⟨S64x256, .f32⟩
  | 24 => ⟨S_, .f32⟩
  | 25 => ⟨S64x256, .f32⟩
  | 26 => ⟨S64x256, .f32⟩
  | 27 => ⟨S64x256, .f32⟩
  | 28 => ⟨S1x256, .f32⟩
  | 29 => ⟨S64x256, .f32⟩
  | 30 => ⟨S64x256, .f32⟩
  | 31 => ⟨S_, .f32⟩
  | 32 => ⟨S64x256, .f32⟩
  | 33 => ⟨S64x256, .f32⟩
  | 34 => ⟨S64x512, .f32⟩
  | 35 => ⟨S64x256, .f32⟩
  | 36 => ⟨S1x256, .f32⟩
  | 37 => ⟨S64x256, .f32⟩
  | 38 => ⟨S64x256, .f32⟩
  | 39 => ⟨S_, .f32⟩
  | 40 => ⟨S64x256, .f32⟩
  | 41 => ⟨S64x256, .f32⟩
  | 42 => ⟨S_, .f32⟩
  | 43 => ⟨S64x256, .f32⟩
  | 44 => ⟨S64x256, .f32⟩
  | 45 => ⟨S64x256, .f32⟩
  | 46 => ⟨S64x256, .f32⟩
  | 47 => ⟨S1x256, .f32⟩
  | 48 => ⟨S64x256, .f32⟩
  | 49 => ⟨S64x256, .f32⟩
  | 50 => ⟨S_, .f32⟩
  | 51 => ⟨S64x256, .f32⟩
  | 52 => ⟨S64x256, .f32⟩
  | 53 => ⟨S64x512, .f32⟩
  | 54 => ⟨S64x256, .f32⟩
  | 55 => ⟨S1x256, .f32⟩
  | 56 => ⟨S64x256, .f32⟩
  | 57 => ⟨S64x256, .f32⟩
  | 58 => ⟨S_, .f32⟩
  | 59 => ⟨S64x256, .f32⟩
  | 60 => ⟨S64x256, .f32⟩
  | 61 => ⟨S_, .f32⟩
  | 62 => ⟨S64x256, .f32⟩
  | 63 => ⟨S64x256, .f32⟩
  | 64 => ⟨S64x256, .f32⟩
  | 65 => ⟨S_, .i32⟩
  | 66 => ⟨S64, .i32⟩
  | 67 => ⟨S64, .i1⟩
  | 68 => ⟨S_, .i32⟩
  | 69 => ⟨S64, .i32⟩
  | 70 => ⟨S64, .i32⟩
  | 71 => ⟨S64, .i32⟩
  | 72 => ⟨S64x1, .i32⟩
  | 73 => ⟨S64x256, .f32⟩
  | 74 => ⟨S_, .f32⟩
  | 75 => ⟨S64x256, .f32⟩
  | 76 => ⟨S_, .i32⟩
  | 77 => ⟨S64, .i32⟩
  | 78 => ⟨S64, .i1⟩
  | 79 => ⟨S_, .i32⟩
  | 80 => ⟨S64, .i32⟩
  | 81 => ⟨S64, .i32⟩
  | 82 => ⟨S64, .i32⟩
  | 83 => ⟨S64x1, .i32⟩
  | 84 => ⟨S64x256, .f32⟩
  | 85 => ⟨S_, .i32⟩
  | 86 => ⟨S64, .i32⟩
  | 87 => ⟨S64, .i1⟩
  | 88 => ⟨S_, .i32⟩
  | 89 => ⟨S64, .i32⟩
  | 90 => ⟨S64, .i32⟩
  | 91 => ⟨S64, .i32⟩
  | 92 => ⟨S64x1, .i32⟩
  | 93 => ⟨S64x256, .f32⟩
  | 94 => ⟨S64x256, .f32⟩
  | 95 => ⟨S1x256, .f32⟩
  | 96 => ⟨S64x256, .f32⟩
  | 97 => ⟨S64x256, .f32⟩
  | 98 => ⟨S_, .f32⟩
  | 99 => ⟨S64x256, .f32⟩
  | 100 => ⟨S64x256, .f32⟩
  | 101 => ⟨S64x256, .f32⟩
  | 102 => ⟨S1x256, .f32⟩
  | 103 => ⟨S64x256, .f32⟩
  | 104 => ⟨S64x256, .f32⟩
  | 105 => ⟨S_, .f32⟩
  | 106 => ⟨S64x256, .f32⟩
  | 107 => ⟨S64x256, .f32⟩
  | 108 => ⟨S64x512, .f32⟩
  | 109 => ⟨S64x256, .f32⟩
  | 110 => ⟨S1x256, .f32⟩
  | 111 => ⟨S64x256, .f32⟩
  | 112 => ⟨S64x256, .f32⟩
  | 113 => ⟨S_, .f32⟩
  | 114 => ⟨S64x256, .f32⟩
  | 115 => ⟨S64x256, .f32⟩
  | 116 => ⟨S_, .f32⟩
  | 117 => ⟨S64x256, .f32⟩
  | 118 => ⟨S64x256, .f32⟩
  | 119 => ⟨S64x256, .f32⟩
  | 120 => ⟨S_, .i32⟩
  | 121 => ⟨S64, .i32⟩
  | 122 => ⟨S64, .i1⟩
  | 123 => ⟨S_, .i32⟩
  | 124 => ⟨S64, .i32⟩
  | 125 => ⟨S64, .i32⟩
  | 126 => ⟨S64, .i32⟩
  | 127 => ⟨S64x1, .i32⟩
  | _ => ⟨S64x256, .f32⟩

abbrev hbmTy0_3 (i : Nat) : BufTy := match i % 128 with
  | 0 => ⟨S64x256, .f32⟩
  | 1 => ⟨S_, .i32⟩
  | 2 => ⟨S64, .i32⟩
  | 3 => ⟨S64, .i1⟩
  | 4 => ⟨S_, .i32⟩
  | 5 => ⟨S64, .i32⟩
  | 6 => ⟨S64, .i32⟩
  | 7 => ⟨S64, .i32⟩
  | 8 => ⟨S64x1, .i32⟩
  | 9 => ⟨S64x256, .f32⟩
  | 10 => ⟨S64x256, .f32⟩
  | 11 => ⟨S1x256, .f32⟩
  | 12 => ⟨S64x256, .f32⟩
  | 13 => ⟨S64x256, .f32⟩
  | 14 => ⟨S_, .f32⟩
  | 15 => ⟨S64x256, .f32⟩
  | 16 => ⟨S64x256, .f32⟩
  | 17 => ⟨S64x256, .f32⟩
  | 18 => ⟨S1x256, .f32⟩
  | 19 => ⟨S64x256, .f32⟩
  | 20 => ⟨S64x256, .f32⟩
  | 21 => ⟨S_, .f32⟩
  | 22 => ⟨S64x256, .f32⟩
  | 23 => ⟨S64x256, .f32⟩
  | 24 => ⟨S64x512, .f32⟩
  | 25 => ⟨S64x256, .f32⟩
  | 26 => ⟨S1x256, .f32⟩
  | 27 => ⟨S64x256, .f32⟩
  | 28 => ⟨S64x256, .f32⟩
  | 29 => ⟨S_, .f32⟩
  | 30 => ⟨S64x256, .f32⟩
  | 31 => ⟨S64x256, .f32⟩
  | 32 => ⟨S_, .f32⟩
  | 33 => ⟨S64x256, .f32⟩
  | 34 => ⟨S64x256, .f32⟩
  | 35 => ⟨S64x256, .f32⟩
  | 36 => ⟨S64x256, .f32⟩
  | 37 => ⟨S1x256, .f32⟩
  | 38 => ⟨S64x256, .f32⟩
  | 39 => ⟨S64x256, .f32⟩
  | 40 => ⟨S_, .f32⟩
  | 41 => ⟨S64x256, .f32⟩
  | 42 => ⟨S64x256, .f32⟩
  | 43 => ⟨S64x512, .f32⟩
  | 44 => ⟨S64x256, .f32⟩
  | 45 => ⟨S1x256, .f32⟩
  | 46 => ⟨S64x256, .f32⟩
  | 47 => ⟨S64x256, .f32⟩
  | 48 => ⟨S_, .f32⟩
  | 49 => ⟨S64x256, .f32⟩
  | 50 => ⟨S64x256, .f32⟩
  | 51 => ⟨S_, .f32⟩
  | 52 => ⟨S64x256, .f32⟩
  | 53 => ⟨S64x256, .f32⟩
  | 54 => ⟨S64x256, .f32⟩
  | 55 => ⟨S_, .f32⟩
  | 56 => ⟨S64x256, .f32⟩
  | 57 => ⟨S64x256, .f32⟩
  | 58 => ⟨S64x256, .f32⟩
  | 59 => ⟨S1x256, .f32⟩
  | 60 => ⟨S64x256, .f32⟩
  | 61 => ⟨S64x256, .f32⟩
  | 62 => ⟨S_, .f32⟩
  | 63 => ⟨S64x256, .f32⟩
  | 64 => ⟨S64x256, .f32⟩
  | 65 => ⟨S64x512, .f32⟩
  | 66 => ⟨S64x256, .f32⟩
  | 67 => ⟨S1x256, .f32⟩
  | 68 => ⟨S64x256, .f32⟩
  | 69 => ⟨S64x256, .f32⟩
  | 70 => ⟨S_, .f32⟩
  | 71 => ⟨S64x256, .f32⟩
  | 72 => ⟨S64x256, .f32⟩
  | 73 => ⟨S64x2, .f32⟩
  | 74 => ⟨S1x2, .f32⟩
  | 75 => ⟨S64x2, .f32⟩
  | 76 => ⟨S64x2, .f32⟩
  | _ => ⟨S64x256, .f32⟩

abbrev hbmTy (i : Nat) : BufTy := match i / 128 with
  | 0 => hbmTy0_0 i
  | 1 => hbmTy0_1 i
  | 2 => hbmTy0_2 i
  | 3 => hbmTy0_3 i
  | _ => ⟨S64x256, .f32⟩

abbrev bufTy : (tb : Table) → Fin (tcTables nBuf tb) → BufTy
  | .hbm, ⟨i, _⟩ => hbmTy i
  | _, _ => ⟨S64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v3 : Ref sig .tc := ⟨.hbm, 32, rfl⟩
abbrev main_c_1 : Ref sig .tc := ⟨.hbm, 33, rfl⟩
abbrev main_v4 : Ref sig .tc := ⟨.hbm, 34, rfl⟩
abbrev main_v5 : Ref sig .tc := ⟨.hbm, 35, rfl⟩
abbrev main_c_2 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v6 : Ref sig .tc := ⟨.hbm, 57, rfl⟩
abbrev main_c_3 : Ref sig .tc := ⟨.hbm, 58, rfl⟩
abbrev main_v7 : Ref sig .tc := ⟨.hbm, 59, rfl⟩
abbrev main_v8 : Ref sig .tc := ⟨.hbm, 60, rfl⟩
abbrev main_c_4 : Ref sig .tc := ⟨.hbm, 61, rfl⟩
abbrev main_call2_v0 : Ref sig .tc := ⟨.hbm, 62, rfl⟩
abbrev main_call2_c : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_c_1 : Ref sig .tc := ⟨.hbm, 69, rfl⟩
abbrev main_call2_v5 : Ref sig .tc := ⟨.hbm, 70, rfl⟩
abbrev main_call2_v6 : Ref sig .tc := ⟨.hbm, 71, rfl⟩
abbrev main_call2_c_2 : Ref sig .tc := ⟨.hbm, 72, rfl⟩
abbrev main_call2_v7 : Ref sig .tc := ⟨.hbm, 73, rfl⟩
abbrev main_call2_v8 : Ref sig .tc := ⟨.hbm, 74, rfl⟩
abbrev main_call2_c_3 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_v9 : Ref sig .tc := ⟨.hbm, 82, rfl⟩
abbrev main_cst : Ref sig .tc := ⟨.hbm, 83, rfl⟩
abbrev main_v10 : Ref sig .tc := ⟨.hbm, 84, rfl⟩
abbrev main_c_5 : Ref sig .tc := ⟨.hbm, 85, rfl⟩
abbrev main_v11 : Ref sig .tc := ⟨.hbm, 86, rfl⟩
abbrev main_v12 : Ref sig .tc := ⟨.hbm, 87, rfl⟩
abbrev main_c_6 : Ref sig .tc := ⟨.hbm, 88, rfl⟩
abbrev main_v13 : Ref sig .tc := ⟨.hbm, 89, rfl⟩
abbrev main_v14 : Ref sig .tc := ⟨.hbm, 90, rfl⟩
abbrev main_v15 : Ref sig .tc := ⟨.hbm, 91, rfl⟩
abbrev main_v16 : Ref sig .tc := ⟨.hbm, 92, rfl⟩
abbrev main_v17 : Ref sig .tc := ⟨.hbm, 93, rfl⟩
abbrev main_cst_7 : Ref sig .tc := ⟨.hbm, 94, rfl⟩
abbrev main_v18 : Ref sig .tc := ⟨.hbm, 95, rfl⟩
abbrev main_c_8 : Ref sig .tc := ⟨.hbm, 96, rfl⟩
abbrev main_v19 : Ref sig .tc := ⟨.hbm, 97, rfl⟩
abbrev main_v20 : Ref sig .tc := ⟨.hbm, 98, rfl⟩
abbrev main_c_9 : Ref sig .tc := ⟨.hbm, 99, rfl⟩
abbrev main_v21 : Ref sig .tc := ⟨.hbm, 100, rfl⟩
abbrev main_v22 : Ref sig .tc := ⟨.hbm, 101, rfl⟩
abbrev main_v23 : Ref sig .tc := ⟨.hbm, 102, rfl⟩
abbrev main_v24 : Ref sig .tc := ⟨.hbm, 103, rfl⟩
abbrev main_v25 : Ref sig .tc := ⟨.hbm, 104, rfl⟩
abbrev main_c_10 : Ref sig .tc := ⟨.hbm, 105, rfl⟩
abbrev main_v26 : Ref sig .tc := ⟨.hbm, 106, rfl⟩
abbrev main_v27 : Ref sig .tc := ⟨.hbm, 107, rfl⟩
abbrev main_c_11 : Ref sig .tc := ⟨.hbm, 108, rfl⟩
abbrev main_v28 : Ref sig .tc := ⟨.hbm, 109, rfl⟩
abbrev main_v29 : Ref sig .tc := ⟨.hbm, 110, rfl⟩
abbrev main_v30 : Ref sig .tc := ⟨.hbm, 111, rfl⟩
abbrev main_v31 : Ref sig .tc := ⟨.hbm, 112, rfl⟩
abbrev main_v32 : Ref sig .tc := ⟨.hbm, 113, rfl⟩
abbrev main_v33 : Ref sig .tc := ⟨.hbm, 114, rfl⟩
abbrev main_v34 : Ref sig .tc := ⟨.hbm, 115, rfl⟩
abbrev main_v35 : Ref sig .tc := ⟨.hbm, 116, rfl⟩
abbrev main_v36 : Ref sig .tc := ⟨.hbm, 117, rfl⟩
abbrev main_call3_cst : Ref sig .tc := ⟨.hbm, 118, rfl⟩
abbrev main_call3_v0 : Ref sig .tc := ⟨.hbm, 119, rfl⟩
abbrev main_v37 : Ref sig .tc := ⟨.hbm, 120, rfl⟩
abbrev main_v38 : Ref sig .tc := ⟨.hbm, 121, rfl⟩
abbrev main_v39 : Ref sig .tc := ⟨.hbm, 122, rfl⟩
abbrev main_v40 : Ref sig .tc := ⟨.hbm, 123, rfl⟩
abbrev main_v41 : Ref sig .tc := ⟨.hbm, 124, rfl⟩
abbrev main_call4_cst : Ref sig .tc := ⟨.hbm, 125, rfl⟩
abbrev main_call4_v0 : Ref sig .tc := ⟨.hbm, 126, rfl⟩
abbrev main_v42 : Ref sig .tc := ⟨.hbm, 127, rfl⟩
abbrev main_v43 : Ref sig .tc := ⟨.hbm, 128, rfl⟩
abbrev main_v44 : Ref sig .tc := ⟨.hbm, 129, rfl⟩
abbrev main_v45 : Ref sig .tc := ⟨.hbm, 130, rfl⟩
abbrev main_v46 : Ref sig .tc := ⟨.hbm, 131, rfl⟩
abbrev main_v47 : Ref sig .tc := ⟨.hbm, 132, rfl⟩
abbrev main_call5_cst : Ref sig .tc := ⟨.hbm, 133, rfl⟩
abbrev main_call5_v0 : Ref sig .tc := ⟨.hbm, 134, rfl⟩
abbrev main_v48 : Ref sig .tc := ⟨.hbm, 135, rfl⟩
abbrev main_cst_12 : Ref sig .tc := ⟨.hbm, 136, rfl⟩
abbrev main_v49 : Ref sig .tc := ⟨.hbm, 137, rfl⟩
abbrev main_v50 : Ref sig .tc := ⟨.hbm, 138, rfl⟩
abbrev main_v51 : Ref sig .tc := ⟨.hbm, 139, rfl⟩
abbrev main_c_13 : Ref sig .tc := ⟨.hbm, 140, rfl⟩
abbrev main_v52 : Ref sig .tc := ⟨.hbm, 141, rfl⟩
abbrev main_v53 : Ref sig .tc := ⟨.hbm, 142, rfl⟩
abbrev main_c_14 : Ref sig .tc := ⟨.hbm, 143, rfl⟩
abbrev main_v54 : Ref sig .tc := ⟨.hbm, 144, rfl⟩
abbrev main_v55 : Ref sig .tc := ⟨.hbm, 145, rfl⟩
abbrev main_v56 : Ref sig .tc := ⟨.hbm, 146, rfl⟩
abbrev main_v57 : Ref sig .tc := ⟨.hbm, 147, rfl⟩
abbrev main_v58 : Ref sig .tc := ⟨.hbm, 148, rfl⟩
abbrev main_c_15 : Ref sig .tc := ⟨.hbm, 149, rfl⟩
abbrev main_v59 : Ref sig .tc := ⟨.hbm, 150, rfl⟩
abbrev main_v60 : Ref sig .tc := ⟨.hbm, 151, rfl⟩
abbrev main_c_16 : Ref sig .tc := ⟨.hbm, 152, rfl⟩
abbrev main_v61 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩
abbrev main_v65 : Ref sig .tc := ⟨.hbm, 157, rfl⟩
abbrev main_v66 : Ref sig .tc := ⟨.hbm, 158, rfl⟩
abbrev main_v67 : Ref sig .tc := ⟨.hbm, 159, rfl⟩
abbrev main_v68 : Ref sig .tc := ⟨.hbm, 160, rfl⟩
abbrev main_v69 : Ref sig .tc := ⟨.hbm, 161, rfl⟩
abbrev main_call6_cst : Ref sig .tc := ⟨.hbm, 162, rfl⟩
abbrev main_call6_v0 : Ref sig .tc := ⟨.hbm, 163, rfl⟩
abbrev main_v70 : Ref sig .tc := ⟨.hbm, 164, rfl⟩
abbrev main_v71 : Ref sig .tc := ⟨.hbm, 165, rfl⟩
abbrev main_v72 : Ref sig .tc := ⟨.hbm, 166, rfl⟩
abbrev main_v73 : Ref sig .tc := ⟨.hbm, 167, rfl⟩
abbrev main_v74 : Ref sig .tc := ⟨.hbm, 168, rfl⟩
abbrev main_call7_cst : Ref sig .tc := ⟨.hbm, 169, rfl⟩
abbrev main_call7_v0 : Ref sig .tc := ⟨.hbm, 170, rfl⟩
abbrev main_v75 : Ref sig .tc := ⟨.hbm, 171, rfl⟩
abbrev main_v76 : Ref sig .tc := ⟨.hbm, 172, rfl⟩
abbrev main_v77 : Ref sig .tc := ⟨.hbm, 173, rfl⟩
abbrev main_v78 : Ref sig .tc := ⟨.hbm, 174, rfl⟩
abbrev main_v79 : Ref sig .tc := ⟨.hbm, 175, rfl⟩
abbrev main_v80 : Ref sig .tc := ⟨.hbm, 176, rfl⟩
abbrev main_call8_cst : Ref sig .tc := ⟨.hbm, 177, rfl⟩
abbrev main_call8_v0 : Ref sig .tc := ⟨.hbm, 178, rfl⟩
abbrev main_v81 : Ref sig .tc := ⟨.hbm, 179, rfl⟩
abbrev main_cst_17 : Ref sig .tc := ⟨.hbm, 180, rfl⟩
abbrev main_v82 : Ref sig .tc := ⟨.hbm, 181, rfl⟩
abbrev main_v83 : Ref sig .tc := ⟨.hbm, 182, rfl⟩
abbrev main_v84 : Ref sig .tc := ⟨.hbm, 183, rfl⟩
abbrev main_v85 : Ref sig .tc := ⟨.hbm, 184, rfl⟩
abbrev main_v86 : Ref sig .tc := ⟨.hbm, 185, rfl⟩
abbrev main_v87 : Ref sig .tc := ⟨.hbm, 186, rfl⟩
abbrev main_v88 : Ref sig .tc := ⟨.hbm, 187, rfl⟩
abbrev main_call9_cst : Ref sig .tc := ⟨.hbm, 188, rfl⟩
abbrev main_call9_v0 : Ref sig .tc := ⟨.hbm, 189, rfl⟩
abbrev main_v89 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩
abbrev main_v93 : Ref sig .tc := ⟨.hbm, 194, rfl⟩
abbrev main_v94 : Ref sig .tc := ⟨.hbm, 195, rfl⟩
abbrev main_call10_cst : Ref sig .tc := ⟨.hbm, 196, rfl⟩
abbrev main_call10_v0 : Ref sig .tc := ⟨.hbm, 197, rfl⟩
abbrev main_v95 : Ref sig .tc := ⟨.hbm, 198, rfl⟩
abbrev main_cst_18 : Ref sig .tc := ⟨.hbm, 199, rfl⟩
abbrev main_v96 : Ref sig .tc := ⟨.hbm, 200, rfl⟩
abbrev main_v97 : Ref sig .tc := ⟨.hbm, 201, rfl⟩
abbrev main_v98 : Ref sig .tc := ⟨.hbm, 202, rfl⟩
abbrev main_c_19 : Ref sig .tc := ⟨.hbm, 203, rfl⟩
abbrev main_v99 : Ref sig .tc := ⟨.hbm, 204, rfl⟩
abbrev main_v100 : Ref sig .tc := ⟨.hbm, 205, rfl⟩
abbrev main_c_20 : Ref sig .tc := ⟨.hbm, 206, rfl⟩
abbrev main_v101 : Ref sig .tc := ⟨.hbm, 207, rfl⟩
abbrev main_v102 : Ref sig .tc := ⟨.hbm, 208, rfl⟩
abbrev main_v103 : Ref sig .tc := ⟨.hbm, 209, rfl⟩
abbrev main_v104 : Ref sig .tc := ⟨.hbm, 210, rfl⟩
abbrev main_v105 : Ref sig .tc := ⟨.hbm, 211, rfl⟩
abbrev main_cst_21 : Ref sig .tc := ⟨.hbm, 212, rfl⟩
abbrev main_v106 : Ref sig .tc := ⟨.hbm, 213, rfl⟩
abbrev main_c_22 : Ref sig .tc := ⟨.hbm, 214, rfl⟩
abbrev main_v107 : Ref sig .tc := ⟨.hbm, 215, rfl⟩
abbrev main_v108 : Ref sig .tc := ⟨.hbm, 216, rfl⟩
abbrev main_c_23 : Ref sig .tc := ⟨.hbm, 217, rfl⟩
abbrev main_v109 : Ref sig .tc := ⟨.hbm, 218, rfl⟩
abbrev main_v110 : Ref sig .tc := ⟨.hbm, 219, rfl⟩
abbrev main_v111 : Ref sig .tc := ⟨.hbm, 220, rfl⟩
abbrev main_v112 : Ref sig .tc := ⟨.hbm, 221, rfl⟩
abbrev main_v113 : Ref sig .tc := ⟨.hbm, 222, rfl⟩
abbrev main_c_24 : Ref sig .tc := ⟨.hbm, 223, rfl⟩
abbrev main_v114 : Ref sig .tc := ⟨.hbm, 224, rfl⟩
abbrev main_v115 : Ref sig .tc := ⟨.hbm, 225, rfl⟩
abbrev main_c_25 : Ref sig .tc := ⟨.hbm, 226, rfl⟩
abbrev main_v116 : Ref sig .tc := ⟨.hbm, 227, rfl⟩
abbrev main_v117 : Ref sig .tc := ⟨.hbm, 228, rfl⟩
abbrev main_v118 : Ref sig .tc := ⟨.hbm, 229, rfl⟩
abbrev main_v119 : Ref sig .tc := ⟨.hbm, 230, rfl⟩
abbrev main_v120 : Ref sig .tc := ⟨.hbm, 231, rfl⟩
abbrev main_v121 : Ref sig .tc := ⟨.hbm, 232, rfl⟩
abbrev main_v122 : Ref sig .tc := ⟨.hbm, 233, rfl⟩
abbrev main_v123 : Ref sig .tc := ⟨.hbm, 234, rfl⟩
abbrev main_v124 : Ref sig .tc := ⟨.hbm, 235, rfl⟩
abbrev main_call11_cst : Ref sig .tc := ⟨.hbm, 236, rfl⟩
abbrev main_call11_v0 : Ref sig .tc := ⟨.hbm, 237, rfl⟩
abbrev main_v125 : Ref sig .tc := ⟨.hbm, 238, rfl⟩
abbrev main_v126 : Ref sig .tc := ⟨.hbm, 239, rfl⟩
abbrev main_v127 : Ref sig .tc := ⟨.hbm, 240, rfl⟩
abbrev main_v128 : Ref sig .tc := ⟨.hbm, 241, rfl⟩
abbrev main_v129 : Ref sig .tc := ⟨.hbm, 242, rfl⟩
abbrev main_call12_cst : Ref sig .tc := ⟨.hbm, 243, rfl⟩
abbrev main_call12_v0 : Ref sig .tc := ⟨.hbm, 244, rfl⟩
abbrev main_v130 : Ref sig .tc := ⟨.hbm, 245, rfl⟩
abbrev main_v131 : Ref sig .tc := ⟨.hbm, 246, rfl⟩
abbrev main_v132 : Ref sig .tc := ⟨.hbm, 247, rfl⟩
abbrev main_v133 : Ref sig .tc := ⟨.hbm, 248, rfl⟩
abbrev main_v134 : Ref sig .tc := ⟨.hbm, 249, rfl⟩
abbrev main_v135 : Ref sig .tc := ⟨.hbm, 250, rfl⟩
abbrev main_call13_cst : Ref sig .tc := ⟨.hbm, 251, rfl⟩
abbrev main_call13_v0 : Ref sig .tc := ⟨.hbm, 252, rfl⟩
abbrev main_v136 : Ref sig .tc := ⟨.hbm, 253, rfl⟩
abbrev main_cst_26 : Ref sig .tc := ⟨.hbm, 254, rfl⟩
abbrev main_v137 : Ref sig .tc := ⟨.hbm, 255, rfl⟩
abbrev main_v138 : Ref sig .tc := ⟨.hbm, 256, rfl⟩
abbrev main_v139 : Ref sig .tc := ⟨.hbm, 257, rfl⟩
abbrev main_c_27 : Ref sig .tc := ⟨.hbm, 258, rfl⟩
abbrev main_v140 : Ref sig .tc := ⟨.hbm, 259, rfl⟩
abbrev main_v141 : Ref sig .tc := ⟨.hbm, 260, rfl⟩
abbrev main_c_28 : Ref sig .tc := ⟨.hbm, 261, rfl⟩
abbrev main_v142 : Ref sig .tc := ⟨.hbm, 262, rfl⟩
abbrev main_v143 : Ref sig .tc := ⟨.hbm, 263, rfl⟩
abbrev main_v144 : Ref sig .tc := ⟨.hbm, 264, rfl⟩
abbrev main_v145 : Ref sig .tc := ⟨.hbm, 265, rfl⟩
abbrev main_v146 : Ref sig .tc := ⟨.hbm, 266, rfl⟩
abbrev main_c_29 : Ref sig .tc := ⟨.hbm, 267, rfl⟩
abbrev main_v147 : Ref sig .tc := ⟨.hbm, 268, rfl⟩
abbrev main_v148 : Ref sig .tc := ⟨.hbm, 269, rfl⟩
abbrev main_c_30 : Ref sig .tc := ⟨.hbm, 270, rfl⟩
abbrev main_v149 : Ref sig .tc := ⟨.hbm, 271, rfl⟩
abbrev main_v150 : Ref sig .tc := ⟨.hbm, 272, rfl⟩
abbrev main_v151 : Ref sig .tc := ⟨.hbm, 273, rfl⟩
abbrev main_v152 : Ref sig .tc := ⟨.hbm, 274, rfl⟩
abbrev main_v153 : Ref sig .tc := ⟨.hbm, 275, rfl⟩
abbrev main_v154 : Ref sig .tc := ⟨.hbm, 276, rfl⟩
abbrev main_v155 : Ref sig .tc := ⟨.hbm, 277, rfl⟩
abbrev main_v156 : Ref sig .tc := ⟨.hbm, 278, rfl⟩
abbrev main_v157 : Ref sig .tc := ⟨.hbm, 279, rfl⟩
abbrev main_call14_cst : Ref sig .tc := ⟨.hbm, 280, rfl⟩
abbrev main_call14_v0 : Ref sig .tc := ⟨.hbm, 281, rfl⟩
abbrev main_v158 : Ref sig .tc := ⟨.hbm, 282, rfl⟩
abbrev main_v159 : Ref sig .tc := ⟨.hbm, 283, rfl⟩
abbrev main_v160 : Ref sig .tc := ⟨.hbm, 284, rfl⟩
abbrev main_v161 : Ref sig .tc := ⟨.hbm, 285, rfl⟩
abbrev main_v162 : Ref sig .tc := ⟨.hbm, 286, rfl⟩
abbrev main_call15_cst : Ref sig .tc := ⟨.hbm, 287, rfl⟩
abbrev main_call15_v0 : Ref sig .tc := ⟨.hbm, 288, rfl⟩
abbrev main_v163 : Ref sig .tc := ⟨.hbm, 289, rfl⟩
abbrev main_v164 : Ref sig .tc := ⟨.hbm, 290, rfl⟩
abbrev main_v165 : Ref sig .tc := ⟨.hbm, 291, rfl⟩
abbrev main_v166 : Ref sig .tc := ⟨.hbm, 292, rfl⟩
abbrev main_v167 : Ref sig .tc := ⟨.hbm, 293, rfl⟩
abbrev main_v168 : Ref sig .tc := ⟨.hbm, 294, rfl⟩
abbrev main_call16_cst : Ref sig .tc := ⟨.hbm, 295, rfl⟩
abbrev main_call16_v0 : Ref sig .tc := ⟨.hbm, 296, rfl⟩
abbrev main_v169 : Ref sig .tc := ⟨.hbm, 297, rfl⟩
abbrev main_cst_31 : Ref sig .tc := ⟨.hbm, 298, rfl⟩
abbrev main_v170 : Ref sig .tc := ⟨.hbm, 299, rfl⟩
abbrev main_v171 : Ref sig .tc := ⟨.hbm, 300, rfl⟩
abbrev main_v172 : Ref sig .tc := ⟨.hbm, 301, rfl⟩
abbrev main_v173 : Ref sig .tc := ⟨.hbm, 302, rfl⟩
abbrev main_v174 : Ref sig .tc := ⟨.hbm, 303, rfl⟩
abbrev main_v175 : Ref sig .tc := ⟨.hbm, 304, rfl⟩
abbrev main_v176 : Ref sig .tc := ⟨.hbm, 305, rfl⟩
abbrev main_call17_cst : Ref sig .tc := ⟨.hbm, 306, rfl⟩
abbrev main_call17_v0 : Ref sig .tc := ⟨.hbm, 307, rfl⟩
abbrev main_v177 : Ref sig .tc := ⟨.hbm, 308, rfl⟩
abbrev main_v178 : Ref sig .tc := ⟨.hbm, 309, rfl⟩
abbrev main_v179 : Ref sig .tc := ⟨.hbm, 310, rfl⟩
abbrev main_v180 : Ref sig .tc := ⟨.hbm, 311, rfl⟩
abbrev main_v181 : Ref sig .tc := ⟨.hbm, 312, rfl⟩
abbrev main_v182 : Ref sig .tc := ⟨.hbm, 313, rfl⟩
abbrev main_call18_cst : Ref sig .tc := ⟨.hbm, 314, rfl⟩
abbrev main_call18_v0 : Ref sig .tc := ⟨.hbm, 315, rfl⟩
abbrev main_v183 : Ref sig .tc := ⟨.hbm, 316, rfl⟩
abbrev main_cst_32 : Ref sig .tc := ⟨.hbm, 317, rfl⟩
abbrev main_v184 : Ref sig .tc := ⟨.hbm, 318, rfl⟩
abbrev main_v185 : Ref sig .tc := ⟨.hbm, 319, rfl⟩
abbrev main_v186 : Ref sig .tc := ⟨.hbm, 320, rfl⟩
abbrev main_c_33 : Ref sig .tc := ⟨.hbm, 321, rfl⟩
abbrev main_v187 : Ref sig .tc := ⟨.hbm, 322, rfl⟩
abbrev main_v188 : Ref sig .tc := ⟨.hbm, 323, rfl⟩
abbrev main_c_34 : Ref sig .tc := ⟨.hbm, 324, rfl⟩
abbrev main_v189 : Ref sig .tc := ⟨.hbm, 325, rfl⟩
abbrev main_v190 : Ref sig .tc := ⟨.hbm, 326, rfl⟩
abbrev main_v191 : Ref sig .tc := ⟨.hbm, 327, rfl⟩
abbrev main_v192 : Ref sig .tc := ⟨.hbm, 328, rfl⟩
abbrev main_v193 : Ref sig .tc := ⟨.hbm, 329, rfl⟩
abbrev main_cst_35 : Ref sig .tc := ⟨.hbm, 330, rfl⟩
abbrev main_v194 : Ref sig .tc := ⟨.hbm, 331, rfl⟩
abbrev main_c_36 : Ref sig .tc := ⟨.hbm, 332, rfl⟩
abbrev main_v195 : Ref sig .tc := ⟨.hbm, 333, rfl⟩
abbrev main_v196 : Ref sig .tc := ⟨.hbm, 334, rfl⟩
abbrev main_c_37 : Ref sig .tc := ⟨.hbm, 335, rfl⟩
abbrev main_v197 : Ref sig .tc := ⟨.hbm, 336, rfl⟩
abbrev main_v198 : Ref sig .tc := ⟨.hbm, 337, rfl⟩
abbrev main_v199 : Ref sig .tc := ⟨.hbm, 338, rfl⟩
abbrev main_v200 : Ref sig .tc := ⟨.hbm, 339, rfl⟩
abbrev main_v201 : Ref sig .tc := ⟨.hbm, 340, rfl⟩
abbrev main_c_38 : Ref sig .tc := ⟨.hbm, 341, rfl⟩
abbrev main_v202 : Ref sig .tc := ⟨.hbm, 342, rfl⟩
abbrev main_v203 : Ref sig .tc := ⟨.hbm, 343, rfl⟩
abbrev main_c_39 : Ref sig .tc := ⟨.hbm, 344, rfl⟩
abbrev main_v204 : Ref sig .tc := ⟨.hbm, 345, rfl⟩
abbrev main_v205 : Ref sig .tc := ⟨.hbm, 346, rfl⟩
abbrev main_v206 : Ref sig .tc := ⟨.hbm, 347, rfl⟩
abbrev main_v207 : Ref sig .tc := ⟨.hbm, 348, rfl⟩
abbrev main_v208 : Ref sig .tc := ⟨.hbm, 349, rfl⟩
abbrev main_v209 : Ref sig .tc := ⟨.hbm, 350, rfl⟩
abbrev main_v210 : Ref sig .tc := ⟨.hbm, 351, rfl⟩
abbrev main_v211 : Ref sig .tc := ⟨.hbm, 352, rfl⟩
abbrev main_v212 : Ref sig .tc := ⟨.hbm, 353, rfl⟩
abbrev main_call19_cst : Ref sig .tc := ⟨.hbm, 354, rfl⟩
abbrev main_call19_v0 : Ref sig .tc := ⟨.hbm, 355, rfl⟩
abbrev main_v213 : Ref sig .tc := ⟨.hbm, 356, rfl⟩
abbrev main_v214 : Ref sig .tc := ⟨.hbm, 357, rfl⟩
abbrev main_v215 : Ref sig .tc := ⟨.hbm, 358, rfl⟩
abbrev main_v216 : Ref sig .tc := ⟨.hbm, 359, rfl⟩
abbrev main_v217 : Ref sig .tc := ⟨.hbm, 360, rfl⟩
abbrev main_call20_cst : Ref sig .tc := ⟨.hbm, 361, rfl⟩
abbrev main_call20_v0 : Ref sig .tc := ⟨.hbm, 362, rfl⟩
abbrev main_v218 : Ref sig .tc := ⟨.hbm, 363, rfl⟩
abbrev main_v219 : Ref sig .tc := ⟨.hbm, 364, rfl⟩
abbrev main_v220 : Ref sig .tc := ⟨.hbm, 365, rfl⟩
abbrev main_v221 : Ref sig .tc := ⟨.hbm, 366, rfl⟩
abbrev main_v222 : Ref sig .tc := ⟨.hbm, 367, rfl⟩
abbrev main_v223 : Ref sig .tc := ⟨.hbm, 368, rfl⟩
abbrev main_call21_cst : Ref sig .tc := ⟨.hbm, 369, rfl⟩
abbrev main_call21_v0 : Ref sig .tc := ⟨.hbm, 370, rfl⟩
abbrev main_v224 : Ref sig .tc := ⟨.hbm, 371, rfl⟩
abbrev main_cst_40 : Ref sig .tc := ⟨.hbm, 372, rfl⟩
abbrev main_v225 : Ref sig .tc := ⟨.hbm, 373, rfl⟩
abbrev main_v226 : Ref sig .tc := ⟨.hbm, 374, rfl⟩
abbrev main_v227 : Ref sig .tc := ⟨.hbm, 375, rfl⟩
abbrev main_c_41 : Ref sig .tc := ⟨.hbm, 376, rfl⟩
abbrev main_v228 : Ref sig .tc := ⟨.hbm, 377, rfl⟩
abbrev main_v229 : Ref sig .tc := ⟨.hbm, 378, rfl⟩
abbrev main_c_42 : Ref sig .tc := ⟨.hbm, 379, rfl⟩
abbrev main_v230 : Ref sig .tc := ⟨.hbm, 380, rfl⟩
abbrev main_v231 : Ref sig .tc := ⟨.hbm, 381, rfl⟩
abbrev main_v232 : Ref sig .tc := ⟨.hbm, 382, rfl⟩
abbrev main_v233 : Ref sig .tc := ⟨.hbm, 383, rfl⟩
abbrev main_v234 : Ref sig .tc := ⟨.hbm, 384, rfl⟩
abbrev main_c_43 : Ref sig .tc := ⟨.hbm, 385, rfl⟩
abbrev main_v235 : Ref sig .tc := ⟨.hbm, 386, rfl⟩
abbrev main_v236 : Ref sig .tc := ⟨.hbm, 387, rfl⟩
abbrev main_c_44 : Ref sig .tc := ⟨.hbm, 388, rfl⟩
abbrev main_v237 : Ref sig .tc := ⟨.hbm, 389, rfl⟩
abbrev main_v238 : Ref sig .tc := ⟨.hbm, 390, rfl⟩
abbrev main_v239 : Ref sig .tc := ⟨.hbm, 391, rfl⟩
abbrev main_v240 : Ref sig .tc := ⟨.hbm, 392, rfl⟩
abbrev main_v241 : Ref sig .tc := ⟨.hbm, 393, rfl⟩
abbrev main_v242 : Ref sig .tc := ⟨.hbm, 394, rfl⟩
abbrev main_v243 : Ref sig .tc := ⟨.hbm, 395, rfl⟩
abbrev main_v244 : Ref sig .tc := ⟨.hbm, 396, rfl⟩
abbrev main_v245 : Ref sig .tc := ⟨.hbm, 397, rfl⟩
abbrev main_call22_cst : Ref sig .tc := ⟨.hbm, 398, rfl⟩
abbrev main_call22_v0 : Ref sig .tc := ⟨.hbm, 399, rfl⟩
abbrev main_v246 : Ref sig .tc := ⟨.hbm, 400, rfl⟩
abbrev main_v247 : Ref sig .tc := ⟨.hbm, 401, rfl⟩
abbrev main_v248 : Ref sig .tc := ⟨.hbm, 402, rfl⟩
abbrev main_v249 : Ref sig .tc := ⟨.hbm, 403, rfl⟩
abbrev main_v250 : Ref sig .tc := ⟨.hbm, 404, rfl⟩
abbrev main_call23_cst : Ref sig .tc := ⟨.hbm, 405, rfl⟩
abbrev main_call23_v0 : Ref sig .tc := ⟨.hbm, 406, rfl⟩
abbrev main_v251 : Ref sig .tc := ⟨.hbm, 407, rfl⟩
abbrev main_v252 : Ref sig .tc := ⟨.hbm, 408, rfl⟩
abbrev main_v253 : Ref sig .tc := ⟨.hbm, 409, rfl⟩
abbrev main_v254 : Ref sig .tc := ⟨.hbm, 410, rfl⟩
abbrev main_v255 : Ref sig .tc := ⟨.hbm, 411, rfl⟩
abbrev main_v256 : Ref sig .tc := ⟨.hbm, 412, rfl⟩
abbrev main_call24_cst : Ref sig .tc := ⟨.hbm, 413, rfl⟩
abbrev main_call24_v0 : Ref sig .tc := ⟨.hbm, 414, rfl⟩
abbrev main_v257 : Ref sig .tc := ⟨.hbm, 415, rfl⟩
abbrev main_cst_45 : Ref sig .tc := ⟨.hbm, 416, rfl⟩
abbrev main_v258 : Ref sig .tc := ⟨.hbm, 417, rfl⟩
abbrev main_v259 : Ref sig .tc := ⟨.hbm, 418, rfl⟩
abbrev main_v260 : Ref sig .tc := ⟨.hbm, 419, rfl⟩
abbrev main_v261 : Ref sig .tc := ⟨.hbm, 420, rfl⟩
abbrev main_v262 : Ref sig .tc := ⟨.hbm, 421, rfl⟩
abbrev main_v263 : Ref sig .tc := ⟨.hbm, 422, rfl⟩
abbrev main_v264 : Ref sig .tc := ⟨.hbm, 423, rfl⟩
abbrev main_call25_cst : Ref sig .tc := ⟨.hbm, 424, rfl⟩
abbrev main_call25_v0 : Ref sig .tc := ⟨.hbm, 425, rfl⟩
abbrev main_v265 : Ref sig .tc := ⟨.hbm, 426, rfl⟩
abbrev main_v266 : Ref sig .tc := ⟨.hbm, 427, rfl⟩
abbrev main_v267 : Ref sig .tc := ⟨.hbm, 428, rfl⟩
abbrev main_v268 : Ref sig .tc := ⟨.hbm, 429, rfl⟩
abbrev main_v269 : Ref sig .tc := ⟨.hbm, 430, rfl⟩
abbrev main_v270 : Ref sig .tc := ⟨.hbm, 431, rfl⟩
abbrev main_call26_cst : Ref sig .tc := ⟨.hbm, 432, rfl⟩
abbrev main_call26_v0 : Ref sig .tc := ⟨.hbm, 433, rfl⟩
abbrev main_v271 : Ref sig .tc := ⟨.hbm, 434, rfl⟩
abbrev main_cst_46 : Ref sig .tc := ⟨.hbm, 435, rfl⟩
abbrev main_v272 : Ref sig .tc := ⟨.hbm, 436, rfl⟩
abbrev main_v273 : Ref sig .tc := ⟨.hbm, 437, rfl⟩
abbrev main_v274 : Ref sig .tc := ⟨.hbm, 438, rfl⟩
abbrev main_call27_cst : Ref sig .tc := ⟨.hbm, 439, rfl⟩
abbrev main_call27_v0 : Ref sig .tc := ⟨.hbm, 440, rfl⟩
abbrev main_v275 : Ref sig .tc := ⟨.hbm, 441, rfl⟩
abbrev main_v276 : Ref sig .tc := ⟨.hbm, 442, rfl⟩
abbrev main_v277 : Ref sig .tc := ⟨.hbm, 443, rfl⟩
abbrev main_v278 : Ref sig .tc := ⟨.hbm, 444, rfl⟩
abbrev main_v279 : Ref sig .tc := ⟨.hbm, 445, rfl⟩
abbrev main_call28_cst : Ref sig .tc := ⟨.hbm, 446, rfl⟩
abbrev main_call28_v0 : Ref sig .tc := ⟨.hbm, 447, rfl⟩
abbrev main_v280 : Ref sig .tc := ⟨.hbm, 448, rfl⟩
abbrev main_v281 : Ref sig .tc := ⟨.hbm, 449, rfl⟩
abbrev main_v282 : Ref sig .tc := ⟨.hbm, 450, rfl⟩
abbrev main_v283 : Ref sig .tc := ⟨.hbm, 451, rfl⟩
abbrev main_v284 : Ref sig .tc := ⟨.hbm, 452, rfl⟩
abbrev main_v285 : Ref sig .tc := ⟨.hbm, 453, rfl⟩
abbrev main_call29_cst : Ref sig .tc := ⟨.hbm, 454, rfl⟩
abbrev main_call29_v0 : Ref sig .tc := ⟨.hbm, 455, rfl⟩
abbrev main_v286 : Ref sig .tc := ⟨.hbm, 456, rfl⟩
abbrev main_v287 : Ref sig .tc := ⟨.hbm, 457, rfl⟩
abbrev main_v288 : Ref sig .tc := ⟨.hbm, 458, rfl⟩
abbrev main_v289 : Ref sig .tc := ⟨.hbm, 459, rfl⟩
abbrev main_v290 : Ref sig .tc := ⟨.hbm, 460, rfl⟩

abbrev nD : Nat := 1
abbrev τ : Topo := Topo.v7x

variable {F : FTy → Type} [FloatOps F]
-- ==== Proof.Spec.lean ====
/-
  The network of the two programs over plain functions: a row is a function of its 256 entries, a weight a function of its
  coordinates, a node one of 64 numbers, its neighbours the three nodes after it round the circle. Both programs are read
  against `answer`. The equations at the end are the only arithmetic in which the two differ: where the constant factor
  stands, the zero a running sum starts from, the place of a bias, and a rectifier over values that are nonnegative already.
-/
module

public import Idealize.ShloMosaic.PureOps.Ideal
public import Idealize.ShloMosaic.Lib.Pointwise

@[expose] public section

noncomputable section

namespace Cert.Proof

open Idealize.ShloMosaic

/-- A feature or hidden row: its 256 entries. -/
abbrev Row := Fin 256 → EReal

/-- The network's parameters. `Wt` and `Wb` are the upper and the lower 256 rows of the combining weight: the part that meets
    the first of two joined rows and the part that meets the second. -/
structure Net where
  Wh : Fin 256 → Fin 256 → EReal
  bh : Row
  Wt : Fin 256 → Fin 256 → EReal
  Wb : Fin 256 → Fin 256 → EReal
  bg : Row
  Wf : Fin 256 → Fin 2 → EReal
  bf : Fin 2 → EReal

/-- The rows of a 64-row array. -/
def rows (x : (⟨2, ![64, 256]⟩ : Shape).Idx → EReal) (l : Fin 64) : Row := fun k => x (ix2 l k)

/-- The network that the argument arrays spell, all but the features. -/
def argNet (wh : (⟨2, ![256, 256]⟩ : Shape).Idx → EReal) (bh : (⟨1, ![256]⟩ : Shape).Idx → EReal)
    (wg : (⟨2, ![512, 256]⟩ : Shape).Idx → EReal) (bg : (⟨1, ![256]⟩ : Shape).Idx → EReal)
    (wf : (⟨2, ![256, 2]⟩ : Shape).Idx → EReal) (bf : (⟨1, ![2]⟩ : Shape).Idx → EReal) : Net where
  Wh k j := wh (ix2 k j)
  bh j := bh (ix1 j)
  Wt k j := wg (ix2 (⟨k.val, by omega⟩ : Fin 512) j)
  Wb k j := wg (ix2 (⟨256 + k.val, by omega⟩ : Fin 512) j)
  bg j := bg (ix1 j)
  Wf k j := wf (ix2 k j)
  bf j := bf (ix1 j)

/-- The node `s` places after node `l`, counted round the 64. -/
def shift (s : Nat) (l : Fin 64) : Fin 64 := ⟨(l.val + s) % 64, Nat.mod_lt _ (by decide)⟩

/-- Going on by `t` places and then by `s` is going on by `t + s`. -/
theorem shift_shift (s t : Nat) (l : Fin 64) : shift s (shift t l) = shift (t + s) l :=
  Fin.ext (by show ((l.val + t) % 64 + s) % 64 = (l.val + (t + s)) % 64; rw [Nat.mod_add_mod, Nat.add_assoc])

/-- The hidden row of a feature row: a product with the weight, the bias, the rectifier. -/
def hid (w : Net) (r : Row) : Row := fun j => max (∑ k, r k * w.Wh k j + w.bh j) 0

/-- The first row's share of a combination, the bias in it. -/
def upper (w : Net) (u : Row) : Row := fun j => ∑ k, u k * w.Wt k j + w.bg j

/-- The second row's share of a combination. -/
def lower (w : Net) (v : Row) : Row := fun j => ∑ k, v k * w.Wb k j

/-- Two rows combined, the order counting: the joined row times the combining weight, the bias, the rectifier. -/
def comb (w : Net) (u v : Row) : Row := fun j => max (upper w u j + lower w v j) 0

/-- The value of a pair of rows: the mean of their two combinations. -/
def pair (w : Net) (u v : Row) : Row := fun j => ((1 / 2 : ℝ) : EReal) * (comb w u v j + comb w v u j)

/-- The value of three rows: the mean of each row's combination with the value of the other two. -/
def triple (w : Net) (a b c : Row) : Row := fun j =>
  (comb w a (pair w b c) j + comb w b (pair w a c) j + comb w c (pair w a b) j) * ((3⁻¹ : ℝ) : EReal)

/-- What both programs compute for node `l`, in its two classes: the node's own hidden row combined with the value of its
    three neighbours' hidden rows, through the last layer. -/
def answer (w : Net) (X : Fin 64 → Row) (l : Fin 64) (j : Fin 2) : EReal :=
  ∑ k, comb w (hid w (X l)) (triple w (hid w (X (shift 1 l))) (hid w (X (shift 2 l))) (hid w (X (shift 3 l)))) k * w.Wf k j + w.bf j

/-- A combination is nonnegative. -/
theorem comb_nonneg (w : Net) (u v : Row) (j : Fin 256) : 0 ≤ comb w u v j := le_max_right _ _

/-- Two nonnegative values halved and summed from zero: half their sum. -/
theorem half_sum {x y : EReal} (hx : 0 ≤ x) (hy : 0 ≤ y) :
    0 + x * ((1 / 2 : ℝ) : EReal) + y * ((1 / 2 : ℝ) : EReal) = ((1 / 2 : ℝ) : EReal) * (x + y) := by
  rw [zero_add, mul_comm _ (x + y), EReal.right_distrib_of_nonneg hx hy]

/-- Three nonnegative values divided by three and summed from zero: a third of their sum. -/
theorem third_sum {x y z : EReal} (hx : 0 ≤ x) (hy : 0 ≤ y) (hz : 0 ≤ z) :
    0 + x * ((1 / 3 : ℝ) : EReal) + y * ((1 / 3 : ℝ) : EReal) + z * ((1 / 3 : ℝ) : EReal) = (x + y + z) * ((3⁻¹ : ℝ) : EReal) := by
  rw [one_div, zero_add, EReal.right_distrib_of_nonneg (add_nonneg hx hy) hz, EReal.right_distrib_of_nonneg hx hy]

/-- The value of three rows is nonnegative, so a rectifier over it changes nothing. -/
theorem max_triple (w : Net) (a b c : Row) (j : Fin 256) : max (triple w a b c j) 0 = triple w a b c j :=
  max_eq_left (mul_nonneg (add_nonneg (add_nonneg (comb_nonneg ..) (comb_nonneg ..)) (comb_nonneg ..))
    (by exact_mod_cast inv_nonneg.2 (by norm_num : (0 : ℝ) ≤ 3)))

end Cert.Proof
-- ==== Proof.Consts.lean ====
/- The float literals the two programs spell, as the extended reals they denote: a half in the kernel, two and three in the
   reference. (Zero is the library's `Ideal.ofBits_zero_f32`; the kernel's third is a named constant.) -/
module

public import Idealize.ShloMosaic.PureOps.Ideal

@[expose] public section

noncomputable section

namespace Cert.Proof

open Idealize.ShloMosaic

/-- The literal `0.5`. -/
theorem lit_half : Ideal.ofBits .f32 0x3F000000#32 = ((1 / 2 : ℝ) : EReal) := by
  simp [Ideal.ofBits, Ideal.ieee, -EReal.coe_mul]; norm_num

/-- The literal `2.0`. -/
theorem lit_two : Ideal.ofBits .f32 0x40000000#32 = ((2 : ℝ) : EReal) := by
  simp [Ideal.ofBits, Ideal.ieee, -EReal.coe_mul]; norm_num

/-- The literal `3.0`. -/
theorem lit_three : Ideal.ofBits .f32 0x40400000#32 = ((3 : ℝ) : EReal) := by
  simp [Ideal.ofBits, Ideal.ieee, -EReal.coe_mul]; norm_num

end Cert.Proof
-- ==== Proof.KernelPay.lean ====
/-
  The kernel's payloads read at an index. The body's store is one composed array, `k0_pay9` over the pieces before it; each
  piece is read here as a function of `Proof/Spec.lean` of the loaded blocks' rows, so the stored array at `(l, j)` is
  `answer` of them.
-/
module

public import proofs.«01_k».proof.Proof.Spec
public import proofs.«01_k».proof.Proof.Consts
public import proofs.«01_k».proof.Proof.Gen.KernelIdeal
public import proofs.«01_k».proof.Proof.Gen.KernelIdeal.Skeleton
public import Idealize.ShloMosaic.Lib.Pointwise

@[expose] public section

set_option maxRecDepth 16384

noncomputable section

namespace Cert.Proof.Kern

open Idealize.ShloMosaic Cert.KernelIdeal Cert.KernelIdeal.Gen

/-- The network the loaded blocks spell. -/
def net (bh bg : Vec Ideal S1x256 .f32) (wt wb wh : Vec Ideal S256x256 .f32) (wf : Vec Ideal S256x2 .f32) (bf : Vec Ideal S1x2 .f32) : Net where
  Wh k j := wh (ix2 k j)
  bh j := bh (ix2 0 j)
  Wt k j := wt (ix2 k j)
  Wb k j := wb (ix2 k j)
  bg j := bg (ix2 0 j)
  Wf k j := wf (ix2 k j)
  bf j := bf (ix2 0 j)

/-- The 64 rows moved up by one, the first one last. -/
def roll1 (x : FVec Ideal S64x256 .f32) : FVec Ideal S64x256 .f32 :=
  concatenate S64x256 0 [⟨S63x256, extractStridedSlice S63x256 ![1, 0] x slices_S64x256_o1_0_S63x256⟩,
    ⟨S1x256, extractStridedSlice S1x256 ![0, 0] x slices_S64x256_o0_0_S1x256⟩] concatenates_S63x256_S1x256_S64x256_d0

/-- The 64 rows moved up by two, the first two last. -/
def roll2 (x : FVec Ideal S64x256 .f32) : FVec Ideal S64x256 .f32 :=
  concatenate S64x256 0 [⟨S62x256, extractStridedSlice S62x256 ![2, 0] x slices_S64x256_o2_0_S62x256⟩,
    ⟨S2x256, extractStridedSlice S2x256 ![0, 0] x slices_S64x256_o0_0_S2x256⟩] concatenates_S62x256_S2x256_S64x256_d0

/-- The 64 rows moved up by three, the first three last. -/
def roll3 (x : FVec Ideal S64x256 .f32) : FVec Ideal S64x256 .f32 :=
  concatenate S64x256 0 [⟨S61x256, extractStridedSlice S61x256 ![3, 0] x slices_S64x256_o3_0_S61x256⟩,
    ⟨S3x256, extractStridedSlice S3x256 ![0, 0] x slices_S64x256_o0_0_S3x256⟩] concatenates_S61x256_S3x256_S64x256_d0

/-- Row `l` of the rolled array is the row one place on. -/
theorem roll1_apply (x : FVec Ideal S64x256 .f32) (l : Fin 64) (j : Fin 256) : roll1 x (ix2 l j) = x (ix2 (shift 1 l) j) := by
  pointwise [roll1]
  split <;> refine congrArg x (congrArg (ix2 · j) (Fin.ext ?_)) <;> simp only [shift] <;> omega

/-- Row `l` of the rolled array is the row two places on. -/
theorem roll2_apply (x : FVec Ideal S64x256 .f32) (l : Fin 64) (j : Fin 256) : roll2 x (ix2 l j) = x (ix2 (shift 2 l) j) := by
  pointwise [roll2]
  split <;> refine congrArg x (congrArg (ix2 · j) (Fin.ext ?_)) <;> simp only [shift] <;> omega

/-- Row `l` of the rolled array is the row three places on. -/
theorem roll3_apply (x : FVec Ideal S64x256 .f32) (l : Fin 64) (j : Fin 256) : roll3 x (ix2 l j) = x (ix2 (shift 3 l) j) := by
  pointwise [roll3]
  split <;> refine congrArg x (congrArg (ix2 · j) (Fin.ext ?_)) <;> simp only [shift] <;> omega

/-- The rectifier of a sum of two arrays, the kernel's combination of two shares. -/
def meet (a b : FVec Ideal S64x256 .f32) : FVec Ideal S64x256 .f32 :=
  maximumf (addf a b) (broadcast S64x256 (Scalar.ofBits .f32 0x00000000#32))

/-- The half of a sum of two arrays. -/
def mean2 (a b : FVec Ideal S64x256 .f32) : FVec Ideal S64x256 .f32 :=
  mulf (broadcast S64x256 (Scalar.ofBits .f32 0x3F000000#32)) (addf a b)

/-- The third of a sum of three arrays, the third a named constant. -/
def mean3 (a b c : FVec Ideal S64x256 .f32) : FVec Ideal S64x256 .f32 :=
  mulf (addf (addf a b) c) (broadcast S64x256 (Named.named κ "third" 0x3EAAAAAB#32))

/-- Two 64-row arrays, one under the other, times a weight. -/
def stacked (p q : FVec Ideal S64x256 .f32) (wb : Vec Ideal S256x256 .f32) : FVec Ideal S128x256 .f32 :=
  matmul (φ₁ := .f32) (φ₂ := .f32) dot_S128x256_S256x256_S128x256_1_0_0_1_n_n none
    (concatenate S128x256 0 [⟨S64x256, p⟩, ⟨S64x256, q⟩] concatenates_S64x256_S64x256_S128x256_d0) wb (constant S128x256 .f32 0x00000000#32)

/-- The first 64 rows of the stacked product. -/
def first (p q : FVec Ideal S64x256 .f32) (wb : Vec Ideal S256x256 .f32) : FVec Ideal S64x256 .f32 :=
  extractStridedSlice S64x256 ![0, 0] (stacked p q wb) slices_S128x256_o0_0_S64x256

/-- The last 64 rows of the stacked product. -/
def second (p q : FVec Ideal S64x256 .f32) (wb : Vec Ideal S256x256 .f32) : FVec Ideal S64x256 .f32 :=
  extractStridedSlice S64x256 ![64, 0] (stacked p q wb) slices_S128x256_o64_0_S64x256

/-- The combination of two shares, read at an index: the larger of their sum and zero. -/
theorem meet_apply (a b : FVec Ideal S64x256 .f32) (l : Fin 64) (j : Fin 256) :
    meet a b (ix2 l j) = max (a (ix2 l j) + b (ix2 l j)) 0 := by
  pointwise [meet]

/-- The half of a sum, read at an index. -/
theorem mean2_apply (a b : FVec Ideal S64x256 .f32) (l : Fin 64) (j : Fin 256) :
    mean2 a b (ix2 l j) = ((1 / 2 : ℝ) : EReal) * (a (ix2 l j) + b (ix2 l j)) := by
  rw [← lit_half]
  pointwise [mean2]

/-- The third of a sum, read at an index: the named constant is one third exactly. -/
theorem mean3_apply (a b c : FVec Ideal S64x256 .f32) (l : Fin 64) (j : Fin 256) :
    mean3 a b c (ix2 l j) = (a (ix2 l j) + b (ix2 l j) + c (ix2 l j)) * ((3⁻¹ : ℝ) : EReal) := by
  rw [← IdealRules.named_const.ideal_named_scalar κ "third" (φ := .f32) 0x3EAAAAAB#32 ((3⁻¹ : ℝ) : EReal) rfl]
  pointwise [mean3]

/-- The stacked product's first rows are the first array's product with the weight. -/
theorem first_apply (p q : FVec Ideal S64x256 .f32) (wb : Vec Ideal S256x256 .f32) (l : Fin 64) (j : Fin 256) :
    first p q wb (ix2 l j) = ∑ k, p (ix2 l k) * wb (ix2 k j) := by
  pointwise [first, stacked]

/-- The stacked product's last rows are the second array's product with the weight. -/
theorem second_apply (p q : FVec Ideal S64x256 .f32) (wb : Vec Ideal S256x256 .f32) (l : Fin 64) (j : Fin 256) :
    second p q wb (ix2 l j) = ∑ k, q (ix2 l k) * wb (ix2 k j) := by
  pointwise [second, stacked]

section
variable (bh bg : Vec Ideal S1x256 .f32) (wt wb wh : Vec Ideal S256x256 .f32) (wf : Vec Ideal S256x2 .f32) (bf : Vec Ideal S1x2 .f32)
  (x : Vec Ideal S64x256 .f32) (l : Fin 64) (j : Fin 256)

/-- The hidden rows. -/
theorem pay1_apply : k0_pay1 bh x wh (ix2 l j) = hid (net bh bg wt wb wh wf bf) (rows x l) j := by
  pointwise [k0_pay1]
  rfl

/-- A hidden row's share as the second of two. -/
theorem pay2_apply : k0_pay2 bh wb x wh (ix2 l j) = lower (net bh bg wt wb wh wf bf) (hid (net bh bg wt wb wh wf bf) (rows x l)) j := by
  pointwise [k0_pay2]
  exact Finset.sum_congr rfl fun k _ => congrArg (· * _) (pay1_apply bh bg wt wb wh wf bf x l k)

/-- A hidden row's share as the first of two, the bias in it. -/
theorem pay3_apply : k0_pay3 bh bg wt x wh (ix2 l j) = upper (net bh bg wt wb wh wf bf) (hid (net bh bg wt wb wh wf bf) (rows x l)) j := by
  pointwise [k0_pay3]
  exact congrArg (· + _) (Finset.sum_congr rfl fun k _ => congrArg (· * _) (pay1_apply bh bg wt wb wh wf bf x l k))

/-- The mean of a node's two combinations with the node one on, `k0_pay8`. -/
theorem pay8_apply : k0_pay8 bh bg wt wb x wh (ix2 l j)
    = pair (net bh bg wt wb wh wf bf) (hid (net bh bg wt wb wh wf bf) (rows x l)) (hid (net bh bg wt wb wh wf bf) (rows x (shift 1 l))) j := by
  show mean2 (meet (k0_pay3 bh bg wt x wh) (roll1 (k0_pay2 bh wb x wh))) (meet (roll1 (k0_pay3 bh bg wt x wh)) (k0_pay2 bh wb x wh)) (ix2 l j) = _
  rw [mean2_apply, meet_apply, meet_apply, roll1_apply, roll1_apply]
  simp only [pay2_apply bh bg wt wb wh wf bf, pay3_apply bh bg wt wb wh wf bf]
  rfl

/-- The mean of a node's two combinations with the node two on. -/
theorem two_on_apply : mean2 (meet (k0_pay3 bh bg wt x wh) (roll2 (k0_pay2 bh wb x wh))) (meet (roll2 (k0_pay3 bh bg wt x wh)) (k0_pay2 bh wb x wh)) (ix2 l j)
    = pair (net bh bg wt wb wh wf bf) (hid (net bh bg wt wb wh wf bf) (rows x l)) (hid (net bh bg wt wb wh wf bf) (rows x (shift 2 l))) j := by
  rw [mean2_apply, meet_apply, meet_apply, roll2_apply, roll2_apply]
  simp only [pay2_apply bh bg wt wb wh wf bf, pay3_apply bh bg wt wb wh wf bf]
  rfl

/-- The last layer over combined rows: a product with the weight and the bias. -/
def last (a b : FVec Ideal S64x256 .f32) (wf : Vec Ideal S256x2 .f32) (bf : Vec Ideal S1x2 .f32) : FVec Ideal S64x2 .f32 :=
  addf (matmul (φ₁ := .f32) (φ₂ := .f32) dot_S64x256_S256x2_S64x2_1_0_0_1_n_n none (meet a b) wf (constant S64x2 .f32 0x00000000#32))
    (broadcastTo S64x2 (shapeCast S1x2 bf shapeCasts_S1x2_S1x2) broadcasts_S1x2_S64x2)

/-- The last layer, read at an index. -/
theorem last_apply (a b : FVec Ideal S64x256 .f32) (i : Fin 2) :
    last a b wf bf (ix2 l i) = ∑ k, max (a (ix2 l k) + b (ix2 l k)) 0 * wf (ix2 k i) + bf (ix2 0 i) := by
  pointwise [last, meet]

/-- Sixty-four rows times a weight. -/
def times (a : FVec Ideal S64x256 .f32) (wb : Vec Ideal S256x256 .f32) : FVec Ideal S64x256 .f32 :=
  matmul (φ₁ := .f32) (φ₂ := .f32) dot_S64x256_S256x256_S64x256_1_0_0_1_n_n none a wb (constant S64x256 .f32 0x00000000#32)

/-- A product with a weight, read at an index: the sum over the 256 features. -/
theorem times_apply (a : FVec Ideal S64x256 .f32) : times a wb (ix2 l j) = ∑ k, a (ix2 l k) * wb (ix2 k j) := by
  pointwise [times]

/-- The last piece over any pieces before it: the stacked product's halves rolled and met, their mean through the last layer. -/
theorem pay9_eq (b a a1 a2 a3 b2 p : FVec Ideal S64x256 .f32) : k0_pay9 wb b a a1 a2 a3 b2 p wf bf
    = last a (times (mean3 (meet a1 (roll2 (first p (mean2 (meet a b2) (meet a2 b)) wb)))
        (meet a2 (roll1 (second p (mean2 (meet a b2) (meet a2 b)) wb)))
        (meet a3 (roll1 (first p (mean2 (meet a b2) (meet a2 b)) wb)))) wb) wf bf := rfl

/-- The stored array at `(l, i)` is the network's answer for node `l`, class `i`. -/
theorem stored_apply (i : Fin 2) :
    k0_pay9 wb (k0_pay2 bh wb x wh) (k0_pay3 bh bg wt x wh) (k0_pay4 bh bg wt x wh) (k0_pay5 bh bg wt x wh) (k0_pay6 bh bg wt x wh)
      (k0_pay7 bh wb x wh) (k0_pay8 bh bg wt wb x wh) wf bf (ix2 l i)
      = answer (net bh bg wt wb wh wf bf) (rows x) l i := by
  have e4 : k0_pay4 bh bg wt x wh = roll1 (k0_pay3 bh bg wt x wh) := rfl
  have e5 : k0_pay5 bh bg wt x wh = roll2 (k0_pay3 bh bg wt x wh) := rfl
  have e6 : k0_pay6 bh bg wt x wh = roll3 (k0_pay3 bh bg wt x wh) := rfl
  have e7 : k0_pay7 bh wb x wh = roll2 (k0_pay2 bh wb x wh) := rfl
  rw [pay9_eq, e4, e5, e6, e7, last_apply]
  simp only [times_apply, mean3_apply, meet_apply, roll1_apply, roll2_apply, roll3_apply, first_apply, second_apply,
    two_on_apply bh bg wt wb wh wf bf, pay8_apply bh bg wt wb wh wf bf, pay3_apply bh bg wt wb wh wf bf, shift_shift]
  rfl

end

end Cert.Proof.Kern
-- ==== Proof.KernelRun.lean ====
/-
  The kernel's result array after the run. The grid has one point and every window's block is its whole array, so the
  result is the body's one store over the argument arrays (the three biases through @main's reshapes to one row), which
  `Proof/KernelPay.lean` reads at an index.
-/
module

public import proofs.«01_k».proof.Proof.KernelPay
public import proofs.«01_k».proof.Proof.Gen.KernelIdeal.Value
public import Idealize.ShloMosaic.Lib.Claim

@[expose] public section

set_option maxRecDepth 16384

noncomputable section

namespace Cert.Proof.Kern

open Idealize.ShloMosaic Idealize.ShloMosaic.Tactic Idealize.SL.Sem Cert.KernelIdeal Cert.KernelIdeal.Gen

/-- What the body stores over whole blocks: the network's answer, the biases one-row blocks reshaped from the arguments. -/
theorem out_apply (x : Vec Ideal S64x256 .f32) (wh : Vec Ideal S256x256 .f32) (bh : Vec Ideal S256 .f32) (wg : Vec Ideal S512x256 .f32)
    (bg : Vec Ideal S256 .f32) (wf : Vec Ideal S256x2 .f32) (bf : Vec Ideal S2 .f32) (l : Fin 64) (i : Fin 2) :
    out0_7 x wh (shapeCast S1x256 bh shapeCasts_S256_S1x256) wg (shapeCast S1x256 bg shapeCasts_S256_S1x256) wf
      (shapeCast S1x2 bf shapeCasts_S2_S1x2) (ix2 l i) = answer (argNet wh bh wg bg wf bf) (rows x) l i := by
  unfold out0_7
  rw [View.canon_unit_zero (by ext a; fin_cases a <;> rfl), stored_apply]
  have hx : View.ld x r0_3 = x := View.ld_unit_zero (by ext a; fin_cases a <;> rfl) _ x
  have hn : net (View.ld (shapeCast S1x256 bh shapeCasts_S256_S1x256) r0_0) (View.ld (shapeCast S1x256 bg shapeCasts_S256_S1x256) r0_0)
      (View.ld wg r0_1) (View.ld wg r0_2) (View.ld wh r0_4) (View.ld wf r0_5) (View.ld (shapeCast S1x2 bf shapeCasts_S2_S1x2) r0_6)
      = argNet wh bh wg bg wf bf := by
    unfold net argNet
    congr 1 <;> funext <;> pointwise
  rw [hx, hn]

variable (m : (ℓ : Loc nD τ sig) → Buf (Elt Ideal) ℓ) (ρ : Dev nD → PrngReg)

/-- A block that starts at the origin and has the array's extents, read from an array, is the array: the way each window's one
    block reads its array. The seven input windows: the features, -/
theorem block0 (c : Dev nD) (t : Fin cfg0.N) : iblk m c 0 t = m ((c.tc : Thread nD τ).loc main_arg0) := by
  rw [← V_main_arg0 m c]
  exact Memref.read_access_unit_zero (Elt Ideal) main_arg0 (funext fun a => by fin_cases t; fin_cases a <;> decide)
    (fun a => by fin_cases t; fin_cases a <;> decide) _

/-- the hidden layer's weight, -/
theorem block1 (c : Dev nD) (t : Fin cfg0.N) : iblk m c 1 t = m ((c.tc : Thread nD τ).loc main_arg1) := by
  rw [← V_main_arg1 m c]
  exact Memref.read_access_unit_zero (Elt Ideal) main_arg1 (funext fun a => by fin_cases t; fin_cases a <;> decide)
    (fun a => by fin_cases t; fin_cases a <;> decide) _

/-- its bias, which @main reshapes to one row before the region, -/
theorem block2 (c : Dev nD) (t : Fin cfg0.N) :
    iblk m c 2 t = shapeCast S1x256 (m ((c.tc : Thread nD τ).loc main_arg2)) shapeCasts_S256_S1x256 := by
  have e : V m c main_call0_v0 = shapeCast S1x256 (m ((c.tc : Thread nD τ).loc main_arg2)) shapeCasts_S256_S1x256 := by
    entry_read
    rfl
  rw [← e]
  exact Memref.read_access_unit_zero (Elt Ideal) main_call0_v0 (funext fun a => by fin_cases t; fin_cases a <;> decide)
    (fun a => by fin_cases t; fin_cases a <;> decide) _

/-- the combining weight, -/
theorem block3 (c : Dev nD) (t : Fin cfg0.N) : iblk m c 3 t = m ((c.tc : Thread nD τ).loc main_arg3) := by
  rw [← V_main_arg3 m c]
  exact Memref.read_access_unit_zero (Elt Ideal) main_arg3 (funext fun a => by fin_cases t; fin_cases a <;> decide)
    (fun a => by fin_cases t; fin_cases a <;> decide) _

/-- its bias as one row, -/
theorem block4 (c : Dev nD) (t : Fin cfg0.N) :
    iblk m c 4 t = shapeCast S1x256 (m ((c.tc : Thread nD τ).loc main_arg4)) shapeCasts_S256_S1x256 := by
  have e : V m c main_call0_v1 = shapeCast S1x256 (m ((c.tc : Thread nD τ).loc main_arg4)) shapeCasts_S256_S1x256 := by
    entry_read
    rfl
  rw [← e]
  exact Memref.read_access_unit_zero (Elt Ideal) main_call0_v1 (funext fun a => by fin_cases t; fin_cases a <;> decide)
    (fun a => by fin_cases t; fin_cases a <;> decide) _

/-- the last layer's weight, -/
theorem block5 (c : Dev nD) (t : Fin cfg0.N) : iblk m c 5 t = m ((c.tc : Thread nD τ).loc main_arg5) := by
  rw [← V_main_arg5 m c]
  exact Memref.read_access_unit_zero (Elt Ideal) main_arg5 (funext fun a => by fin_cases t; fin_cases a <;> decide)
    (fun a => by fin_cases t; fin_cases a <;> decide) _

/-- and its bias as one row. -/
theorem block6 (c : Dev nD) (t : Fin cfg0.N) :
    iblk m c 6 t = shapeCast S1x2 (m ((c.tc : Thread nD τ).loc main_arg6)) shapeCasts_S2_S1x2 := by
  have e : V m c main_call0_v2 = shapeCast S1x2 (m ((c.tc : Thread nD τ).loc main_arg6)) shapeCasts_S2_S1x2 := by
    entry_read
    rfl
  rw [← e]
  exact Memref.read_access_unit_zero (Elt Ideal) main_call0_v2 (funext fun a => by fin_cases t; fin_cases a <;> decide)
    (fun a => by fin_cases t; fin_cases a <;> decide) _

/-- The grid's one point. -/
def pt : Fin cfg0.N := ⟨0, by decide⟩

/-- The result array after the run, at `(l, i)`: the network's answer over the argument arrays. -/
theorem final_apply (c : Dev nD) (l : Fin 64) (i : Fin 2) : ((dats m 0 c).arrAt 7 cfg0.N : Vec Ideal S64x2 .f32) (ix2 l i)
    = answer (argNet (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)))
        (rows (m ((c.tc : Thread nD τ).loc main_arg0))) l i := by
  have hb := Value.blocks7 m c pt (by decide)
  have hw : ((cfg0.win 7).blk pt).view.read (Elt Ideal) ((dats m 0 c).arrAt 7 cfg0.N) = (dats m 0 c).arrAt 7 cfg0.N :=
    Memref.read_access_unit_zero (Elt Ideal) main_v0 (funext fun a => by fin_cases a <;> decide) (fun a => by fin_cases a <;> decide) _
  rw [hw, Value.flushed7, block0, block1, block2, block3, block4, block5, block6] at hb
  rw [hb]
  exact out_apply _ _ _ _ _ _ _ l i

end Cert.Proof.Kern
-- ==== Proof.RefOps.lean ====
/-
  The reference's layers read at an index, each over any arrays it is applied to: the printed program repeats them for every
  step of the recursion, so each is read once here and met again by unfolding names. The gathers: a row number computed from
  an iota is the shifted node's.
-/
module

public import proofs.«01_k».proof.Proof.Spec
public import proofs.«01_k».proof.Proof.Consts
public import proofs.«01_k».proof.Proof.Gen.ReferenceIdeal
public import proofs.«01_k».proof.Proof.Gen.ReferenceIdeal.Read
public import Idealize.ShloMosaic.Lib.Pointwise
public import Idealize.ShloMosaic.Lib.Pointwise.IndexBridge
public import Idealize.ShloMosaic.Lib.Routing.Ops

@[expose] public section

set_option maxRecDepth 16384

noncomputable section

namespace Cert.Proof.Ref

open Idealize.ShloMosaic Cert.ReferenceIdeal Cert.ReferenceIdeal.Gen Cert.ReferenceIdeal.Read

/-- A 64-row array of the reference. -/
abbrev Arr := FVec Ideal S64x256 .f32

/-- One literal over a 64-row array. -/
def all (b : BitVec 32) : Arr := broadcastInDim S64x256 ![] bcast_S_S64x256 (constant S_ .f32 b)

/-- The hidden layer. -/
def hLayer (x : Arr) (wh : FVec Ideal S256x256 .f32) (bh : FVec Ideal S256 .f32) : Arr :=
  maximumf (addf (Host.dotGeneral (φ₁ := .f32) (φ₂ := .f32) dot_S64x256_S256x256_S64x256_1_0_0_1_n_n none x wh)
    (broadcastInDim S64x256 ![0, 1] bcast_S1x256_S64x256_0_1 (broadcastInDim S1x256 ![1] bcast_S256_S1x256_1 bh))) (all 0x00000000#32)

/-- The combining layer over two joined arrays. -/
def gLayer (a b : Arr) (wg : FVec Ideal S512x256 .f32) (bg : FVec Ideal S256 .f32) : Arr :=
  maximumf (addf (Host.dotGeneral (φ₁ := .f32) (φ₂ := .f32) dot_S64x512_S512x256_S64x256_1_0_0_1_n_n none
      (concatenate S64x512 1 [⟨S64x256, a⟩, ⟨S64x256, b⟩] concatenates_S64x256_S64x256_S64x512_d1) wg)
    (broadcastInDim S64x256 ![0, 1] bcast_S1x256_S64x256_0_1 (broadcastInDim S1x256 ![1] bcast_S256_S1x256_1 bg))) (all 0x00000000#32)

/-- The running sum of two halves. -/
def avg2 (a b : Arr) : Arr := addf (addf (all 0x00000000#32) (Host.divf a (all 0x40000000#32))) (Host.divf b (all 0x40000000#32))

/-- The running sum of three thirds. -/
def avg3 (a b c : Arr) : Arr :=
  addf (addf (addf (all 0x00000000#32) (Host.divf a (all 0x40400000#32))) (Host.divf b (all 0x40400000#32))) (Host.divf c (all 0x40400000#32))

/-- The last layer. -/
def fLayer (e : Arr) (wf : FVec Ideal S256x2 .f32) (bf : FVec Ideal S2 .f32) : FVec Ideal S64x2 .f32 :=
  addf (Host.dotGeneral (φ₁ := .f32) (φ₂ := .f32) dot_S64x256_S256x2_S64x2_1_0_0_1_n_n none e wf)
    (broadcastInDim S64x2 ![0, 1] bcast_S1x2_S64x2_0_1 (broadcastInDim S1x2 ![1] bcast_S2_S1x2_1 bf))

/-- The larger of an array and zero, read at an index. -/
theorem relu_apply (e : Arr) (l : Fin 64) (j : Fin 256) : maximumf e (all 0x00000000#32) (ix2 l j) = max (e (ix2 l j)) 0 := by
  pointwise [all]

section
variable (wh : FVec Ideal S256x256 .f32) (bh : FVec Ideal S256 .f32) (wg : FVec Ideal S512x256 .f32) (bg : FVec Ideal S256 .f32)
  (wf : FVec Ideal S256x2 .f32) (bf : FVec Ideal S2 .f32)

/-- Each row of the hidden layer is the hidden row of the features' row. -/
theorem rows_hLayer (x : Arr) (l : Fin 64) : rows (hLayer x wh bh) l = hid (argNet wh bh wg bg wf bf) (rows x l) := by
  funext j
  unfold rows hid argNet
  pointwise [hLayer, all]

/-- Each row of the combining layer is the combination of the two arrays' rows. -/
theorem rows_gLayer (a b : Arr) (l : Fin 64) : rows (gLayer a b wg bg) l = comb (argNet wh bh wg bg wf bf) (rows a l) (rows b l) := by
  funext j
  unfold rows comb upper lower argNet
  rw [add_right_comm]
  pointwise [gLayer, all]

/-- The mean of the two combinations of a pair of rows, one in each order, is the pair's value: the reference starts at zero and
    adds the halves one by one. -/
theorem rows_avg2 (u v : Row) (a b : Arr) (l : Fin 64) (ha : rows a l = comb (argNet wh bh wg bg wf bf) u v)
    (hb : rows b l = comb (argNet wh bh wg bg wf bf) v u) : rows (avg2 a b) l = pair (argNet wh bh wg bg wf bf) u v := by
  funext j
  have h : rows (avg2 a b) l j = 0 + Ideal.div (rows a l j) (Ideal.ofBits .f32 0x40000000#32) + Ideal.div (rows b l j) (Ideal.ofBits .f32 0x40000000#32) := by
    unfold rows
    pointwise [avg2, all]
  rw [h, lit_two, Ideal.div_coe (by norm_num), Ideal.div_coe (by norm_num), ha, hb]
  exact half_sum (comb_nonneg ..) (comb_nonneg ..)

/-- The larger of zero and the mean of three combinations, each of a row with the pair of the two others, is the triple's value. -/
theorem rows_avg3 (u v t : Row) (a b c : Arr) (l : Fin 64)
    (ha : rows a l = comb (argNet wh bh wg bg wf bf) u (pair (argNet wh bh wg bg wf bf) v t))
    (hb : rows b l = comb (argNet wh bh wg bg wf bf) v (pair (argNet wh bh wg bg wf bf) u t))
    (hc : rows c l = comb (argNet wh bh wg bg wf bf) t (pair (argNet wh bh wg bg wf bf) u v)) :
    rows (maximumf (avg3 a b c) (all 0x00000000#32)) l = triple (argNet wh bh wg bg wf bf) u v t := by
  funext j
  have h : rows (avg3 a b c) l j = 0 + Ideal.div (rows a l j) (Ideal.ofBits .f32 0x40400000#32)
      + Ideal.div (rows b l j) (Ideal.ofBits .f32 0x40400000#32) + Ideal.div (rows c l j) (Ideal.ofBits .f32 0x40400000#32) := by
    unfold rows
    pointwise [avg3, all]
  have h3 : rows (avg3 a b c) l j = triple (argNet wh bh wg bg wf bf) u v t j := by
    rw [h, lit_three, Ideal.div_coe (by norm_num), Ideal.div_coe (by norm_num), Ideal.div_coe (by norm_num), ha, hb, hc]
    exact third_sum (comb_nonneg ..) (comb_nonneg ..) (comb_nonneg ..)
  exact (relu_apply _ l j).trans ((congrArg (max · 0) h3).trans (max_triple ..))

/-- The last layer read at an index: the row's products with the class's weights, summed, and the class's bias. -/
theorem fLayer_apply (e : Arr) (l : Fin 64) (i : Fin 2) :
    fLayer e wf bf (ix2 l i) = ∑ k, rows e l k * (argNet wh bh wg bg wf bf).Wf k i + (argNet wh bh wg bg wf bf).bf i := by
  unfold rows argNet
  pointwise [fLayer]

end

/-- The gathered features' rows where the index words are those of the nodes `s` on. -/
theorem rows_gather (x : Arr) (idx : IVec S64x1 32) (s : Nat)
    (h : ∀ l : Fin 64, idx (ix2 l (0 : Fin 1)) = BitVec.ofNat 32 (shift s l).val) (l : Fin 64) :
    rows (Host.gather gather_S64x256_S64x1_S64x256_1_0_n_n_0_1_1256 x idx) l = rows x (shift s l) := by
  funext k
  unfold rows
  simp only [ix2_eq_valueIdx]
  exact Routing.gather_row gather_S64x256_S64x1_S64x256_1_0_n_n_0_1_1256 rfl rfl rfl rfl rfl x idx l k (shift s l)
    (by rw [← ix2_eq_valueIdx]; exact h l) (by decide)

/-- The index words of the reference's three neighbour columns, decided over the 64 nodes: the nodes one on, -/
theorem word1 : ∀ l : Fin 64, (val_main_v16 (F := Ideal)) (ix2 l (0 : Fin 1)) = BitVec.ofNat 32 (shift 1 l).val := by
  decide +kernel

/-- two on, -/
theorem word2 : ∀ l : Fin 64, (val_main_v24 (F := Ideal)) (ix2 l (0 : Fin 1)) = BitVec.ofNat 32 (shift 2 l).val := by
  decide +kernel

/-- three on. -/
theorem word3 : ∀ l : Fin 64, (val_main_v31 (F := Ideal)) (ix2 l (0 : Fin 1)) = BitVec.ofNat 32 (shift 3 l).val := by
  decide +kernel

end Cert.Proof.Ref
-- ==== Proof.RefValue.lean ====
/-
  The reference's result read at an index. The printed program is the recursion written out; each of its stages is one of
  the layers of `Proof/RefOps.lean` over earlier stages, so the stages' rows follow one from the other, from the gathered
  features to the value of a node's three neighbours and to the last layer.
-/
module

public import proofs.«01_k».proof.Proof.RefOps

@[expose] public section

set_option maxRecDepth 16384

noncomputable section

namespace Cert.Proof.Ref

open Idealize.ShloMosaic Cert.ReferenceIdeal Cert.ReferenceIdeal.Gen Cert.ReferenceIdeal.Read

variable (x : Arr) (wh : FVec Ideal S256x256 .f32) (bh : FVec Ideal S256 .f32) (wg : FVec Ideal S512x256 .f32) (bg : FVec Ideal S256 .f32)
  (wf : FVec Ideal S256x2 .f32) (bf : FVec Ideal S2 .f32)

/-- The hidden rows of the nodes one, two and three on; of the nodes themselves. -/
def h1 : Arr := hLayer (val_main_v17 (F := Ideal) x) wh bh
@[inherit_doc h1] def h2 : Arr := hLayer (val_main_v25 (F := Ideal) x) wh bh
@[inherit_doc h1] def h3 : Arr := hLayer (val_main_v32 (F := Ideal) x) wh bh
@[inherit_doc h1] def h0 : Arr := hLayer x wh bh

/-- The value of a pair as the reference computes it from two arrays of hidden rows. -/
def pairOf (a b : Arr) : Arr := avg2 (gLayer a b wg bg) (gLayer b a wg bg)

/-- The stages that hold the three pairs' values: of the nodes two and three on, -/
theorem stage84 : val_main_v84 (F := Ideal) x wh bh wg bg = pairOf wg bg (h2 x wh bh) (h3 x wh bh) := rfl

/-- one and three on, -/
theorem stage172 : val_main_v172 (F := Ideal) x wh bh wg bg = pairOf wg bg (h1 x wh bh) (h3 x wh bh) := rfl

/-- one and two on. -/
theorem stage260 : val_main_v260 (F := Ideal) x wh bh wg bg = pairOf wg bg (h1 x wh bh) (h2 x wh bh) := rfl

/-- The stage that holds the three neighbours' value, from the three pairs' stages. -/
theorem stage275 : val_main_v275 (F := Ideal) x wh bh wg bg
    = maximumf (avg3 (gLayer (h1 x wh bh) (val_main_v84 (F := Ideal) x wh bh wg bg) wg bg)
        (gLayer (h2 x wh bh) (val_main_v172 (F := Ideal) x wh bh wg bg) wg bg)
        (gLayer (h3 x wh bh) (val_main_v260 (F := Ideal) x wh bh wg bg) wg bg)) (all 0x00000000#32) := rfl

/-- The result stage, from the three neighbours' value. -/
theorem stage290 : val_main_v290 (F := Ideal) x wh bh wg bg wf bf
    = fLayer (gLayer (h0 x wh bh) (val_main_v275 (F := Ideal) x wh bh wg bg) wg bg) wf bf := rfl

/-- A pair's stage at a node is the pair of the two hidden rows there. -/
theorem rows_pairOf (a b : Arr) (l : Fin 64) :
    rows (pairOf wg bg a b) l = pair (argNet wh bh wg bg wf bf) (rows a l) (rows b l) :=
  rows_avg2 wh bh wg bg wf bf _ _ _ _ l (rows_gLayer wh bh wg bg wf bf a b l) (rows_gLayer wh bh wg bg wf bf b a l)

/-- The hidden rows of a node's neighbours. -/
theorem rows_h1 (l : Fin 64) : rows (h1 x wh bh) l = hid (argNet wh bh wg bg wf bf) (rows x (shift 1 l)) :=
  (rows_hLayer wh bh wg bg wf bf _ l).trans (congrArg _ (rows_gather x _ 1 word1 l))
@[inherit_doc rows_h1] theorem rows_h2 (l : Fin 64) : rows (h2 x wh bh) l = hid (argNet wh bh wg bg wf bf) (rows x (shift 2 l)) :=
  (rows_hLayer wh bh wg bg wf bf _ l).trans (congrArg _ (rows_gather x _ 2 word2 l))
@[inherit_doc rows_h1] theorem rows_h3 (l : Fin 64) : rows (h3 x wh bh) l = hid (argNet wh bh wg bg wf bf) (rows x (shift 3 l)) :=
  (rows_hLayer wh bh wg bg wf bf _ l).trans (congrArg _ (rows_gather x _ 3 word3 l))

/-- The reference's result at `(l, i)` is the network's answer for node `l`, class `i`. -/
theorem result_apply (l : Fin 64) (i : Fin 2) : val_main_v290 (F := Ideal) x wh bh wg bg wf bf (ix2 l i)
    = answer (argNet wh bh wg bg wf bf) (rows x) l i := by
  have e1 := rows_h1 x wh bh wg bg wf bf l
  have e2 := rows_h2 x wh bh wg bg wf bf l
  have e3 := rows_h3 x wh bh wg bg wf bf l
  have e : rows (val_main_v275 (F := Ideal) x wh bh wg bg) l = triple (argNet wh bh wg bg wf bf)
      (hid (argNet wh bh wg bg wf bf) (rows x (shift 1 l))) (hid (argNet wh bh wg bg wf bf) (rows x (shift 2 l)))
      (hid (argNet wh bh wg bg wf bf) (rows x (shift 3 l))) := by
    rw [stage275]
    refine rows_avg3 wh bh wg bg wf bf _ _ _ _ _ _ l ?_ ?_ ?_
    · rw [rows_gLayer wh bh wg bg wf bf, stage84, rows_pairOf wh bh wg bg wf bf, e1, e2, e3]
    · rw [rows_gLayer wh bh wg bg wf bf, stage172, rows_pairOf wh bh wg bg wf bf, e1, e2, e3]
    · rw [rows_gLayer wh bh wg bg wf bf, stage260, rows_pairOf wh bh wg bg wf bf, e1, e2, e3]
  rw [stage290, fLayer_apply wh bh wg bg wf bf, rows_gLayer wh bh wg bg wf bf, e]
  have e0 : rows (h0 x wh bh) l = hid (argNet wh bh wg bg wf bf) (rows x l) := rows_hLayer wh bh wg bg wf bf x l
  rw [e0]
  rfl

end Cert.Proof.Ref
-- ==== Proof.lean ====
/-
  The proof of `Cert.Claim` (proofs.«01_k».proof.Defs). The frames of the kernel and of its idealization are the
  generated ones; the reference's is its generated run read at its arguments, its semaphore counters zero because it
  has none. The value claim (`algebraic`) meets at one function of the argument arrays, `answer` of `Proof/Spec.lean`:
  the kernel's result array holds it (`Kern.final_apply`, `Proof/KernelRun.lean`) and so does the reference's
  (`Ref.result_apply`, `Proof/RefValue.lean`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelRun
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem

/-- The reference leaves its arguments as they were, and every semaphore counter at zero. -/
theorem frame_r : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)

/-- The reference's result stage over arrays that are the kernel's arguments is the array the kernel leaves. -/
theorem results_eq (m : (ℓ : Loc Cert.KernelIdeal.nD Cert.KernelIdeal.τ Cert.KernelIdeal.sig) → Buf (Elt Ideal) ℓ)
    (c : Dev Cert.KernelIdeal.nD) (x : FVec Ideal Cert.ReferenceIdeal.S64x256 .f32) (wh : FVec Ideal Cert.ReferenceIdeal.S256x256 .f32)
    (bh : FVec Ideal Cert.ReferenceIdeal.S256 .f32) (wg : FVec Ideal Cert.ReferenceIdeal.S512x256 .f32)
    (bg : FVec Ideal Cert.ReferenceIdeal.S256 .f32) (wf : FVec Ideal Cert.ReferenceIdeal.S256x2 .f32)
    (bf : FVec Ideal Cert.ReferenceIdeal.S2 .f32)
    (e0 : x = m ((c.tc : Thread Cert.KernelIdeal.nD Cert.KernelIdeal.τ).loc Cert.KernelIdeal.main_arg0))
    (e1 : wh = m ((c.tc : Thread Cert.KernelIdeal.nD Cert.KernelIdeal.τ).loc Cert.KernelIdeal.main_arg1))
    (e2 : bh = m ((c.tc : Thread Cert.KernelIdeal.nD Cert.KernelIdeal.τ).loc Cert.KernelIdeal.main_arg2))
    (e3 : wg = m ((c.tc : Thread Cert.KernelIdeal.nD Cert.KernelIdeal.τ).loc Cert.KernelIdeal.main_arg3))
    (e4 : bg = m ((c.tc : Thread Cert.KernelIdeal.nD Cert.KernelIdeal.τ).loc Cert.KernelIdeal.main_arg4))
    (e5 : wf = m ((c.tc : Thread Cert.KernelIdeal.nD Cert.KernelIdeal.τ).loc Cert.KernelIdeal.main_arg5))
    (e6 : bf = m ((c.tc : Thread Cert.KernelIdeal.nD Cert.KernelIdeal.τ).loc Cert.KernelIdeal.main_arg6)) :
    Cert.ReferenceIdeal.Read.val_main_v290 (F := Ideal) x wh bh wg bg wf bf
      = (Cert.KernelIdeal.Gen.dats m 0 c).arrAt 7 Cert.KernelIdeal.cfg0.N := by
  subst e0 e1 e2 e3 e4 e5 e6
  funext y
  rw [eq_ix2 y]
  exact (Ref.result_apply _ _ _ _ _ _ _ _ _).trans (Kern.final_apply m c _ _).symm

/-- From memories that agree on the arguments, the idealized kernel and the reference both run and end with the same
    result, every argument unchanged. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => (Cert.KernelIdeal.Gen.dats m 0 c).arrAt 7 Cert.KernelIdeal.cfg0.N, Cert.KernelIdeal.Value.run_blocks m g, ?_⟩
  refine (θ_run Cert.ReferenceIdeal.defs _ _).mono (fun r h c => ⟨?_, (h c).2⟩) (Cert.ReferenceIdeal.Value.run m' g')
  obtain ⟨e0, e1, e2, e3, e4, e5, e6⟩ := hagree c
  exact ((h c).1.trans (Cert.ReferenceIdeal.Read.val_main_v290_eq (StableHlo.launchContents m' c))).trans
    (results_eq m c _ _ _ _ _ _ _ e0 e1 e2 e3 e4 e5 e6)

/-- Every claim of the certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_r,
    IdealRules.named_const.statement Cert.KernelIdeal.κ "third" .f32 0x3EAAAAAB#32 ((3⁻¹ : ℝ) : EReal) rfl, algebraic⟩

end Cert.Proof

end
